-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S512x512x16 : Shape := ⟨3, ![512, 512, 16]⟩
abbrev S512x512 : Shape := ⟨2, ![512, 512]⟩
abbrev S16x16 : Shape := ⟨2, ![16, 16]⟩
abbrev S_ : Shape := ⟨0, ![]⟩

class Facts : Prop where
  bcast_S_S512x512x16 : S_.BroadcastsInDim S512x512x16 (![] : Fin 0 → Fin S512x512x16.rank)
  reducesTo_S512x512x16_S_d0_1_2 : S512x512x16.ReducesTo [0, 1, 2] S_
  h_S_ : 0 < S_.numel
  bcast_S_S16x16 : S_.BroadcastsInDim S16x16 (![] : Fin 0 → Fin S16x16.rank)
  reducesTo_S16x16_S_d0_1 : S16x16.ReducesTo [0, 1] S_

variable [Facts]

def fn_part1 {F : FTy → Type} [FloatOps F] (main_arg8 : FVec F S16x16 .f32) (main_v13 : IVec S_ 1) (main_v16 : IVec S16x16 1) : IVec S_ 1 :=
  let main_c_5 : IVec S_ 1 := constantI S_ 1 1#1
  let main_v17 : IVec S_ 1 := (fun x v => Host.reduce IntOp.andi x v reducesTo_S16x16_S_d0_1 h_S_) main_v16 main_c_5
  let main_v18 : IVec S_ 1 := andi main_v13 main_v17
  let main_v19 : FVec F S16x16 .f32 := Host.absf main_arg8
  let main_cst_6 : FVec F S_ .f32 := constant S_ .f32 0x7F800000#32
  let main_v20 : FVec F S16x16 .f32 := broadcastInDim S16x16 ![] bcast_S_S16x16 main_cst_6
  let main_v21 : IVec S16x16 1 := cmpf .olt main_v19 main_v20
  let main_c_7 : IVec S_ 1 := constantI S_ 1 1#1
  let main_v22 : IVec S_ 1 := (fun x v => Host.reduce IntOp.andi x v reducesTo_S16x16_S_d0_1 h_S_) main_v21 main_c_7
  let main_v23 : IVec S_ 1 := andi main_v18 main_v22
  main_v23

def fn {F : FTy → Type} [FloatOps F] (main_arg0 : FVec F S512x512x16 .f32) (main_arg1 : FVec F S512x512x16 .f32) (main_arg2 : IVec S512x512 32) (main_arg3 : FVec F S512x512x16 .f32) (main_arg4 : FVec F S512x512x16 .f32) (main_arg5 : FVec F S16x16 .f32) (main_arg6 : FVec F S16x16 .f32) (main_arg7 : FVec F S16x16 .f32) (main_arg8 : FVec F S16x16 .f32) : IVec S_ 1 :=
  let main_v0 : FVec F S512x512x16 .f32 := Host.absf main_arg0
  let main_cst : FVec F S_ .f32 := constant S_ .f32 0x7F800000#32
  let main_v1 : FVec F S512x512x16 .f32 := broadcastInDim S512x512x16 ![] bcast_S_S512x512x16 main_cst
  let main_v2 : IVec S512x512x16 1 := cmpf .olt main_v0 main_v1
  let main_c : IVec S_ 1 := constantI S_ 1 1#1
  let main_v3 : IVec S_ 1 := (fun x v => Host.reduce IntOp.andi x v reducesTo_S512x512x16_S_d0_1_2 h_S_) main_v2 main_c
  let main_v4 : FVec F S512x512x16 .f32 := Host.absf main_arg1
  let main_cst_0 : FVec F S_ .f32 := constant S_ .f32 0x7F800000#32
  let main_v5 : FVec F S512x512x16 .f32 := broadcastInDim S512x512x16 ![] bcast_S_S512x512x16 main_cst_0
  let main_v6 : IVec S512x512x16 1 := cmpf .olt main_v4 main_v5
  let main_c_1 : IVec S_ 1 := constantI S_ 1 1#1
  let main_v7 : IVec S_ 1 := (fun x v => Host.reduce IntOp.andi x v reducesTo_S512x512x16_S_d0_1_2 h_S_) main_v6 main_c_1
  let main_v8 : IVec S_ 1 := andi main_v3 main_v7
  let main_v9 : FVec F S16x16 .f32 := Host.absf main_arg5
  let main_cst_2 : FVec F S_ .f32 := constant S_ .f32 0x7F800000#32
  let main_v10 : FVec F S16x16 .f32 := broadcastInDim S16x16 ![] bcast_S_S16x16 main_cst_2
  let main_v11 : IVec S16x16 1 := cmpf .olt main_v9 main_v10
  let main_c_3 : IVec S_ 1 := constantI S_ 1 1#1
  let main_v12 : IVec S_ 1 := (fun x v => Host.reduce IntOp.andi x v reducesTo_S16x16_S_d0_1 h_S_) main_v11 main_c_3
  let main_v13 : IVec S_ 1 := andi main_v8 main_v12
  let main_v14 : FVec F S16x16 .f32 := Host.absf main_arg7
  let main_cst_4 : FVec F S_ .f32 := constant S_ .f32 0x7F800000#32
  let main_v15 : FVec F S16x16 .f32 := broadcastInDim S16x16 ![] bcast_S_S16x16 main_cst_4
  let main_v16 : IVec S16x16 1 := cmpf .olt main_v14 main_v15
  fn_part1 (F := F) main_arg8 main_v13 main_v16
-- ==== Kernel.lean ====
abbrev S512x512x16 : Shape := ⟨3, ![512, 512, 16]⟩
abbrev S512x512 : Shape := ⟨2, ![512, 512]⟩
abbrev S16x16 : Shape := ⟨2, ![16, 16]⟩
abbrev S96x1 : Shape := ⟨2, ![96, 1]⟩
abbrev S16x32 : Shape := ⟨2, ![16, 32]⟩
abbrev S_ : Shape := ⟨0, ![]⟩
abbrev S512x512x1 : Shape := ⟨3, ![512, 512, 1]⟩
abbrev S96x32 : Shape := ⟨2, ![96, 32]⟩
abbrev S8x512x16 : Shape := ⟨3, ![8, 512, 16]⟩
abbrev S8x512x1 : Shape := ⟨3, ![8, 512, 1]⟩
abbrev S8x512x96 : Shape := ⟨3, ![8, 512, 96]⟩
abbrev S4096x96 : Shape := ⟨2, ![4096, 96]⟩
abbrev S4096x16 : Shape := ⟨2, ![4096, 16]⟩
abbrev S4096x32 : Shape := ⟨2, ![4096, 32]⟩
abbrev S96x16 : Shape := ⟨2, ![96, 16]⟩
abbrev S512x512x32 : Shape := ⟨3, ![512, 512, 32]⟩
abbrev S8x512x32 : Shape := ⟨3, ![8, 512, 32]⟩
abbrev S512x512x16x2 : Shape := ⟨4, ![512, 512, 16, 2]⟩

abbrev nBuf : Space → Nat
  | .hbm => 30
  | .vmem => 28
  | .smem => 0
  | _ => 0

abbrev bufTy : (tb : Table) → Fin (tcTables nBuf tb) → BufTy
  | .hbm, ⟨0, _⟩ => ⟨S512x512x16, .f32⟩
  | .hbm, ⟨1, _⟩ => ⟨S512x512x16, .f32⟩
  | .hbm, ⟨2, _⟩ => ⟨S512x512, .i32⟩
  | .hbm, ⟨3, _⟩ => ⟨S512x512x16, .f32⟩
  | .hbm, ⟨4, _⟩ => ⟨S512x512x16, .f32⟩
  | .hbm, ⟨5, _⟩ => ⟨S16x16, .f32⟩
  | .hbm, ⟨6, _⟩ => ⟨S16x16, .f32⟩
  | .hbm, ⟨7, _⟩ => ⟨S16x16, .f32⟩
  | .hbm, ⟨8, _⟩ => ⟨S16x16, .f32⟩
  | .hbm, ⟨9, _⟩ => ⟨S96x1, .i32⟩
  | .hbm, ⟨10, _⟩ => ⟨S16x32, .f32⟩
  | .hbm, ⟨11, _⟩ => ⟨S16x32, .f32⟩
  | .hbm, ⟨12, _⟩ => ⟨S96x1, .f32⟩
  | .hbm, ⟨13, _⟩ => ⟨S_, .f32⟩
  | .hbm, ⟨14, _⟩ => ⟨S96x1, .f32⟩
  | .hbm, ⟨15, _⟩ => ⟨S96x1, .i1⟩
  | .hbm, ⟨16, _⟩ => ⟨S_, .f32⟩
  | .hbm, ⟨17, _⟩ => ⟨S96x1, .f32⟩
  | .hbm, ⟨18, _⟩ => ⟨S96x1, .f32⟩
  | .hbm, ⟨19, _⟩ => ⟨S_, .f32⟩
  | .hbm, ⟨20, _⟩ => ⟨S96x1, .f32⟩
  | .hbm, ⟨21, _⟩ => ⟨S96x1, .f32⟩
  | .hbm, ⟨22, _⟩ => ⟨S_, .f32⟩
  | .hbm, ⟨23, _⟩ => ⟨S_, .f32⟩
  | .hbm, ⟨24, _⟩ => ⟨S96x1, .f32⟩
  | .hbm, ⟨25, _⟩ => ⟨S96x1, .f32⟩
  | .hbm, ⟨26, _⟩ => ⟨S512x512x1, .i32⟩
  | .hbm, ⟨27, _⟩ => ⟨S96x32, .f32⟩
  | .hbm, ⟨28, _⟩ => ⟨S512x512x32, .f32⟩
  | .hbm, ⟨29, _⟩ => ⟨S512x512x16x2, .f32⟩
  | .local _ .vmem, ⟨0, _⟩ => ⟨S8x512x16, .f32⟩
  | .local _ .vmem, ⟨1, _⟩ => ⟨S8x512x16, .f32⟩
  | .local _ .vmem, ⟨2, _⟩ => ⟨S8x512x16, .f32⟩
  | .local _ .vmem, ⟨3, _⟩ => ⟨S8x512x16, .f32⟩
  | .local _ .vmem, ⟨4, _⟩ => ⟨S8x512x1, .i32⟩
  | .local _ .vmem, ⟨5, _⟩ => ⟨S8x512x1, .i32⟩
  | .local _ .vmem, ⟨6, _⟩ => ⟨S96x1, .f32⟩
  | .local _ .vmem, ⟨7, _⟩ => ⟨S16x16, .f32⟩
  | .local _ .vmem, ⟨8, _⟩ => ⟨S16x16, .f32⟩
  | .local _ .vmem, ⟨9, _⟩ => ⟨S16x32, .f32⟩
  | .local _ .vmem, ⟨10, _⟩ => ⟨S16x32, .f32⟩
  | .local _ .vmem, ⟨11, _⟩ => ⟨S96x32, .f32⟩
  | .local _ .vmem, ⟨12, _⟩ => ⟨S96x32, .f32⟩
  | .local _ .vmem, ⟨13, _⟩ => ⟨S8x512x16, .f32⟩
  | .local _ .vmem, ⟨14, _⟩ => ⟨S8x512x16, .f32⟩
  | .local _ .vmem, ⟨15, _⟩ => ⟨S8x512x16, .f32⟩
  | .local _ .vmem, ⟨16, _⟩ => ⟨S8x512x16, .f32⟩
  | .local _ .vmem, ⟨17, _⟩ => ⟨S8x512x1, .i32⟩
  | .local _ .vmem, ⟨18, _⟩ => ⟨S8x512x1, .i32⟩
  | .local _ .vmem, ⟨19, _⟩ => ⟨S96x32, .f32⟩
  | .local _ .vmem, ⟨20, _⟩ => ⟨S16x16, .f32⟩
  | .local _ .vmem, ⟨21, _⟩ => ⟨S16x16, .f32⟩
  | .local _ .vmem, ⟨22, _⟩ => ⟨S16x16, .f32⟩
  | .local _ .vmem, ⟨23, _⟩ => ⟨S16x16, .f32⟩
  | .local _ .vmem, ⟨24, _⟩ => ⟨S16x32, .f32⟩
  | .local _ .vmem, ⟨25, _⟩ => ⟨S16x32, .f32⟩
  | .local _ .vmem, ⟨26, _⟩ => ⟨S8x512x32, .f32⟩
  | .local _ .vmem, ⟨27, _⟩ => ⟨S8x512x32, .f32⟩
  | _, _ => ⟨S512x512x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_cst : Ref sig .tc := ⟨.hbm, 10, rfl⟩
abbrev main_cst_0 : Ref sig .tc := ⟨.hbm, 11, rfl⟩
abbrev main_v0 : Ref sig .tc := ⟨.hbm, 12, rfl⟩
abbrev main_cst_1 : Ref sig .tc := ⟨.hbm, 13, rfl⟩
abbrev main_v1 : Ref sig .tc := ⟨.hbm, 14, rfl⟩
abbrev main_v2 : Ref sig .tc := ⟨.hbm, 15, rfl⟩
abbrev main_cst_2 : Ref sig .tc := ⟨.hbm, 16, rfl⟩
abbrev main_v3 : Ref sig .tc := ⟨.hbm, 17, rfl⟩
abbrev main_v4 : Ref sig .tc := ⟨.hbm, 18, rfl⟩
abbrev main_cst_3 : Ref sig .tc := ⟨.hbm, 19, rfl⟩
abbrev main_v5 : Ref sig .tc := ⟨.hbm, 20, rfl⟩
abbrev main_v6 : Ref sig .tc := ⟨.hbm, 21, rfl⟩
abbrev main_cst_4 : Ref sig .tc := ⟨.hbm, 22, rfl⟩
abbrev main_call0_v0 : Ref sig .tc := ⟨.hbm, 23, rfl⟩
abbrev main_call0_v1 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_scratch0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg9_0 : Ref sig .tc := ⟨.vmem, 25, rfl⟩
abbrev cc1_stg10_0 : Ref sig .tc := ⟨.vmem, 26, rfl⟩
abbrev cc1_stg10_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem9_0 : DmaSem sig := 24
abbrev cc1_sem10_0 : DmaSem sig := 25
abbrev cc1_sem10_1 : DmaSem sig := 26

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v51 : BitVec 1 := Scalar.cmpi .eq arg0 c63_i32
  let v52 : BitVec 32 := Scalar.extui v51
  let c0_i32_16 : BitVec 32 := 0#32
  let v53 : BitVec 1 := Scalar.cmpi .ne v52 c0_i32_16
  v53

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x512x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S96x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S96x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![64], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S8x512x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8x512x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8x512x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S96x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S16x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S16x16 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S16x16 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S16x16 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S16x32 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S16x32 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S8x512x32 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]
-- ==== ReferenceIdeal.lean ====
abbrev S512x512x16 : Shape := ⟨3, ![512, 512, 16]⟩
abbrev S512x512 : Shape := ⟨2, ![512, 512]⟩
abbrev S16x16 : Shape := ⟨2, ![16, 16]⟩
abbrev S512 : Shape := ⟨1, ![512]⟩
abbrev S_ : Shape := ⟨0, ![]⟩
abbrev S512x1 : Shape := ⟨2, ![512, 1]⟩
abbrev S1x512 : Shape := ⟨2, ![1, 512]⟩
abbrev S512x512x1 : Shape := ⟨3, ![512, 512, 1]⟩
abbrev S91 : Shape := ⟨1, ![91]⟩
abbrev S91x16 : Shape := ⟨2, ![91, 16]⟩
abbrev S91x1 : Shape := ⟨2, ![91, 1]⟩
abbrev S512x512x16x1 : Shape := ⟨4, ![512, 512, 16, 1]⟩
abbrev S512x512x16x2 : Shape := ⟨4, ![512, 512, 16, 2]⟩

abbrev nBuf : Space → Nat
  | .hbm => 135
  | .vmem => 0
  | .smem => 0
  | _ => 0

abbrev hbmTy0_0 (i : Nat) : BufTy := match i % 128 with
  | 0 => ⟨S512x512x16, .f32⟩
  | 1 => ⟨S512x512x16, .f32⟩
  | 2 => ⟨S512x512, .i32⟩
  | 3 => ⟨S512x512x16, .f32⟩
  | 4 => ⟨S512x512x16, .f32⟩
  | 5 => ⟨S16x16, .f32⟩
  | 6 => ⟨S16x16, .f32⟩
  | 7 => ⟨S16x16, .f32⟩
  | 8 => ⟨S16x16, .f32⟩
  | 9 => ⟨S512, .i32⟩
  | 10 => ⟨S_, .i32⟩
  | 11 => ⟨S512, .i32⟩
  | 12 => ⟨S512, .i32⟩
  | 13 => ⟨S512x1, .i32⟩
  | 14 => ⟨S512x1, .i32⟩
  | 15 => ⟨S512x1, .i32⟩
  | 16 => ⟨S1x512, .i32⟩
  | 17 => ⟨S1x512, .i32⟩
  | 18 => ⟨S1x512, .i32⟩
  | 19 => ⟨S512x512, .i32⟩
  | 20 => ⟨S512x512, .i32⟩
  | 21 => ⟨S512x512, .i32⟩
  | 22 => ⟨S512x512, .f32⟩
  | 23 => ⟨S512x512, .f32⟩
  | 24 => ⟨S_, .f32⟩
  | 25 => ⟨S512x512, .f32⟩
  | 26 => ⟨S512x512, .f32⟩
  | 27 => ⟨S512x512, .f32⟩
  | 28 => ⟨S512x512, .i32⟩
  | 29 => ⟨S_, .i32⟩
  | 30 => ⟨S512x512, .i32⟩
  | 31 => ⟨S512x512, .i1⟩
  | 32 => ⟨S512x512x1, .i1⟩
  | 33 => ⟨S_, .f32⟩
  | 34 => ⟨S91, .f32⟩
  | 35 => ⟨S_, .i32⟩
  | 36 => ⟨S512x512, .i32⟩
  | 37 => ⟨S512x512, .i1⟩
  | 38 => ⟨S_, .i32⟩
  | 39 => ⟨S512x512, .i32⟩
  | 40 => ⟨S512x512, .i32⟩
  | 41 => ⟨S512x512, .i32⟩
  | 42 => ⟨S512x512x1, .i32⟩
  | 43 => ⟨S_, .f32⟩
  | 44 => ⟨S512x512, .f32⟩
  | 45 => ⟨S91, .f32⟩
  | 46 => ⟨S_, .i32⟩
  | 47 => ⟨S512x512, .i32⟩
  | 48 => ⟨S512x512, .i1⟩
  | 49 => ⟨S512x512, .f32⟩
  | 50 => ⟨S512x512x1, .f32⟩
  | 51 => ⟨S_, .i32⟩
  | 52 => ⟨S512x512, .i32⟩
  | 53 => ⟨S512x512, .i1⟩
  | 54 => ⟨S512x512, .f32⟩
  | 55 => ⟨S512x512x1, .f32⟩
  | 56 => ⟨S512x512x16, .f32⟩
  | 57 => ⟨S512x512x16, .f32⟩
  | 58 => ⟨S512x512x16, .f32⟩
  | 59 => ⟨S512x512x16, .f32⟩
  | 60 => ⟨S512x512x16, .f32⟩
  | 61 => ⟨S512x512x16, .f32⟩
  | 62 => ⟨S512x512x16, .f32⟩
  | 63 => ⟨S512x512x16, .f32⟩
  | 64 => ⟨S512x512x16, .f32⟩
  | 65 => ⟨S512x512x16, .f32⟩
  | 66 => ⟨S512x512x16, .f32⟩
  | 67 => ⟨S512x512x16, .f32⟩
  | 68 => ⟨S512x512x16, .f32⟩
  | 69 => ⟨S512x512x16, .f32⟩
  | 70 => ⟨S_, .f32⟩
  | 71 => ⟨S91x16, .f32⟩
  | 72 => ⟨S_, .i32⟩
  | 73 => ⟨S512x512, .i32⟩
  | 74 => ⟨S512x512, .i1⟩
  | 75 => ⟨S_, .i32⟩
  | 76 => ⟨S512x512, .i32⟩
  | 77 => ⟨S512x512, .i32⟩
  | 78 => ⟨S512x512, .i32⟩
  | 79 => ⟨S512x512x1, .i32⟩
  | 80 => ⟨S91x16, .f32⟩
  | 81 => ⟨S91x1, .f32⟩
  | 82 => ⟨S91x16, .f32⟩
  | 83 => ⟨S91x16, .f32⟩
  | 84 => ⟨S_, .f32⟩
  | 85 => ⟨S91x16, .f32⟩
  | 86 => ⟨S_, .i32⟩
  | 87 => ⟨S512x512, .i32⟩
  | 88 => ⟨S512x512, .i1⟩
  | 89 => ⟨S_, .i32⟩
  | 90 => ⟨S512x512, .i32⟩
  | 91 => ⟨S512x512, .i32⟩
  | 92 => ⟨S512x512, .i32⟩
  | 93 => ⟨S512x512x1, .i32⟩
  | 94 => ⟨S91x16, .f32⟩
  | 95 => ⟨S91x1, .f32⟩
  | 96 => ⟨S91x16, .f32⟩
  | 97 => ⟨S91x16, .f32⟩
  | 98 => ⟨S512x512x1, .i32⟩
  | 99 => ⟨S512x512x16, .f32⟩
  | 100 => ⟨S512x512x1, .i32⟩
  | 101 => ⟨S512x512x16, .f32⟩
  | 102 => ⟨S512x512x16, .f32⟩
  | 103 => ⟨S_, .f32⟩
  | 104 => ⟨S512x512x16, .f32⟩
  | 105 => ⟨S512x512x16, .f32⟩
  | 106 => ⟨S512x512x16, .f32⟩
  | 107 => ⟨S_, .f32⟩
  | 108 => ⟨S512x512x16, .f32⟩
  | 109 => ⟨S512x512x16, .f32⟩
  | 110 => ⟨S512x512x16, .f32⟩
  | 111 => ⟨S512x512x16, .f32⟩
  | 112 => ⟨S512x512x16, .f32⟩
  | 113 => ⟨S512x512x16, .f32⟩
  | 114 => ⟨S512x512x16, .f32⟩
  | 115 => ⟨S512x512x16, .f32⟩
  | 116 => ⟨S512x512x16, .f32⟩
  | 117 => ⟨S512x512x16, .f32⟩
  | 118 => ⟨S512x512x16, .f32⟩
  | 119 => ⟨S512x512x16, .f32⟩
  | 120 => ⟨S512x512x16, .f32⟩
  | 121 => ⟨S512x512x16, .f32⟩
  | 122 => ⟨S512x512x16, .f32⟩
  | 123 => ⟨S512x512x16, .f32⟩
  | 124 => ⟨S512x512x16, .f32⟩
  | 125 => ⟨S512x512x16, .f32⟩
  | 126 => ⟨S512x512x16, .f32⟩
  | 127 => ⟨S512x512x16, .i1⟩
  | _ => ⟨S512x512x16, .f32⟩

abbrev hbmTy0_1 (i : Nat) : BufTy := match i % 128 with
  | 0 => ⟨S512x512x16, .f32⟩
  | 1 => ⟨S512x512x16, .f32⟩
  | 2 => ⟨S512x512x16, .i1⟩
  | 3 => ⟨S512x512x16, .f32⟩
  | 4 => ⟨S512x512x16x1, .f32⟩
  | 5 => ⟨S512x512x16x1, .f32⟩
  | 6 => ⟨S512x512x16x2, .f32⟩
  | _ => ⟨S512x512x16, .f32⟩

abbrev hbmTy (i : Nat) : BufTy := match i / 128 with
  | 0 => hbmTy0_0 i
  | 1 => hbmTy0_1 i
  | _ => ⟨S512x512x16, .f32⟩

abbrev bufTy : (tb : Table) → Fin (tcTables nBuf tb) → BufTy
  | .hbm, ⟨i, _⟩ => hbmTy i
  | _, _ => ⟨S512x512x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_0 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_1 : Ref sig .tc := ⟨.hbm, 33, rfl⟩
abbrev main_v21 : Ref sig .tc := ⟨.hbm, 34, rfl⟩
abbrev main_c_2 : Ref sig .tc := ⟨.hbm, 35, rfl⟩
abbrev main_v22 : Ref sig .tc := ⟨.hbm, 36, rfl⟩
abbrev main_v23 : Ref sig .tc := ⟨.hbm, 37, rfl⟩
abbrev main_c_3 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_v29 : Ref sig .tc := ⟨.hbm, 45, rfl⟩
abbrev main_c_5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_7 : Ref sig .tc := ⟨.hbm, 70, rfl⟩
abbrev main_v52 : Ref sig .tc := ⟨.hbm, 71, rfl⟩
abbrev main_c_8 : Ref sig .tc := ⟨.hbm, 72, rfl⟩
abbrev main_v53 : Ref sig .tc := ⟨.hbm, 73, rfl⟩
abbrev main_v54 : Ref sig .tc := ⟨.hbm, 74, rfl⟩
abbrev main_c_9 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_10 : Ref sig .tc := ⟨.hbm, 84, rfl⟩
abbrev main_v63 : Ref sig .tc := ⟨.hbm, 85, rfl⟩
abbrev main_c_11 : Ref sig .tc := ⟨.hbm, 86, rfl⟩
abbrev main_v64 : Ref sig .tc := ⟨.hbm, 87, rfl⟩
abbrev main_v65 : Ref sig .tc := ⟨.hbm, 88, rfl⟩
abbrev main_c_12 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_call0_v0 : Ref sig .tc := ⟨.hbm, 98, rfl⟩
abbrev main_v74 : Ref sig .tc := ⟨.hbm, 99, rfl⟩
abbrev main_call1_v0 : Ref sig .tc := ⟨.hbm, 100, rfl⟩
abbrev main_v75 : Ref sig .tc := ⟨.hbm, 101, rfl⟩
abbrev main_v76 : Ref sig .tc := ⟨.hbm, 102, rfl⟩
abbrev main_cst_13 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_cst_14 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_call2_v0 : Ref sig .tc := ⟨.hbm, 127, rfl⟩
abbrev main_v99 : Ref sig .tc := ⟨.hbm, 128, rfl⟩
abbrev main_v100 : Ref sig .tc := ⟨.hbm, 129, rfl⟩
abbrev main_call3_v0 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩

abbrev nD : Nat := 1
abbrev τ : Topo := Topo.v7x

variable {F : FTy → Type} [FloatOps F]
-- ==== Proof.Pass2.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Pipeline.Frame
public import Idealize.ShloMosaic.Lib.Tactic
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The printed zero offsets of a rectangle of rank 2 are zero on each axis, -/
theorem zero2 : (![0, 0] : Fin 2 → Nat) = fun _ => 0 := by decide
/-- and those of rank 3. -/
theorem zero3 : (![0, 0, 0] : Fin 3 → Nat) = fun _ => 0 := by decide

/-- A load of a whole buffer, at the zero offsets, reads what the buffer holds. -/
theorem readAt_zero {S : Shape} {e : EltTy} {κ : Kind} {sp : Space} (v : View sig κ sp S e) {off : Fin S.rank → Nat}
    (h : off = fun _ => 0) (inb : ∀ a, off a + S.size a ≤ S.size a) (f : v.ty.Contents (Elt F)) :
    v.readAt (Elt F) (Rect.unit off S.size inb).toLoadRect f = v.read (Elt F) f :=
  View.ld_unit_zero h inb (v.read (Elt F) f)

/-- What the second pass stores at a grid point, of the blocks its windows hold there: the two images (`x0`, `x1`), the
    mask, the table of ring means, the four weight matrices and the two matrices that place the real and the imaginary parts
    in the interleaved columns. -/
abbrev out1 (i : grid1.Coords) (x0 : Vec F S8x512x16 .f32) (x1 : Vec F S8x512x16 .f32) (x2 : Vec F S8x512x1 .i32) (x3 : Vec F S96x32 .f32) (x4 : Vec F S16x16 .f32) (x5 : Vec F S16x16 .f32) (x6 : Vec F S16x16 .f32) (x7 : Vec F S16x16 .f32) (x8 : Vec F S16x32 .f32) (x9 : Vec F S16x32 .f32) : Vec F S8x512x32 .f32 :=
  k1_pay1 (k1_pay6 (k1_pay4 x8 x9 x4 x5 x0 x1)) (k1_pay7 (k1_pay5 x8 x9 x6 x7 x0 x1))
    (k1_pay8 (BitVec.ofNat 32 (i 0).val) 8#32 x3) (k1_pay9 x2) (k1_pay10 x2) 1#32

set_option maxHeartbeats 2000000 in
/-- The second pass's body on whole buffers: the inputs stay, and the output's buffer ends with `out1` of them. -/
theorem body1 (c : Dev nD) (E : Set ℕ) (i : grid1.Coords) (arg1 : Memref sig .tc .vmem S8x512x16 .f32) (harg1 : arg1.IsWhole) (arg2 : Memref sig .tc .vmem S8x512x16 .f32) (harg2 : arg2.IsWhole) (arg3 : Memref sig .tc .vmem S8x512x1 .i32) (harg3 : arg3.IsWhole) (arg4 : Memref sig .tc .vmem S96x32 .f32) (harg4 : arg4.IsWhole) (arg5 : Memref sig .tc .vmem S16x16 .f32) (harg5 : arg5.IsWhole) (arg6 : Memref sig .tc .vmem S16x16 .f32) (harg6 : arg6.IsWhole) (arg7 : Memref sig .tc .vmem S16x16 .f32) (harg7 : arg7.IsWhole) (arg8 : Memref sig .tc .vmem S16x16 .f32) (harg8 : arg8.IsWhole) (arg9 : Memref sig .tc .vmem S16x32 .f32) (harg9 : arg9.IsWhole) (arg10 : Memref sig .tc .vmem S16x32 .f32) (harg10 : arg10.IsWhole) (arg11 : Memref sig .tc .vmem S8x512x32 .f32) (harg11 : arg11.IsWhole)
    (x0 : Vec F S8x512x16 .f32) (x1 : Vec F S8x512x16 .f32) (x2 : Vec F S8x512x1 .i32) (x3 : Vec F S96x32 .f32) (x4 : Vec F S16x16 .f32) (x5 : Vec F S16x16 .f32) (x6 : Vec F S16x16 .f32) (x7 : Vec F S16x16 .f32) (x8 : Vec F S16x32 .f32) (x9 : Vec F S16x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (out1 i x0 x1 x2 x3 x4 x5 x6 x7 x8 x9)) -∗ K ⟨⟩))
      ⊢ wp frame (wpE (defs₀ (F := F)) Variants.none c none) E (cc1__pass2 i arg1 harg1 arg2 harg2 arg3 harg3 arg4 harg4 arg5 harg5 arg6 harg6 arg7 harg7 arg8 harg8 arg9 harg9 arg10 harg10 arg11 harg11) K := by
  simp only [cc1__pass2_eq_skeleton]; unfold cc1__pass2_skel
  simp only [k1_part1_eq_skeleton, k1_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  rw [View.read_writes_eq_canon _ _ _ (fun y => ⟨_, List.mem_singleton_self _,
    View.mem_set_unit_zero zero3 inb_S8x512x32_S8x512x32_0_0_0 y⟩), View.canon_unit_zero zero3]
  delta body1.sl.r_2 body1.sl.r_3 body1.sl.r_4 body1.sl.r_5 body1.sl.r_6 body1.sl.r body1.sl.r_1 out1
  rw [readAt_zero arg1.view zero3 inb_S8x512x16_S8x512x16_0_0_0 f0,
    readAt_zero arg2.view zero3 inb_S8x512x16_S8x512x16_0_0_0 f1,
    readAt_zero arg3.view zero3 inb_S8x512x1_S8x512x1_0_0_0 f2,
    readAt_zero arg4.view zero2 inb_S96x32_S96x32_0_0 f3,
    readAt_zero arg5.view zero2 inb_S16x16_S16x16_0_0 f4,
    readAt_zero arg6.view zero2 inb_S16x16_S16x16_0_0 f5,
    readAt_zero arg7.view zero2 inb_S16x16_S16x16_0_0 f6,
    readAt_zero arg8.view zero2 inb_S16x16_S16x16_0_0 f7,
    readAt_zero arg9.view zero2 inb_S16x32_S16x32_0_0 f8,
    readAt_zero arg10.view zero2 inb_S16x32_S16x32_0_0 f9]

end Cert.KernelIdeal.Hand

end
-- ==== Proof.Pass1.lean ====
module

public import proofs.«01_k».proof.Proof.Pass2

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- A load, through any rectangle, of a buffer whose last store covered all of it reads that store's payload. -/
theorem readCov_whole {S : Shape} {e : EltTy} {κ : Kind} {sp : Space} (v : View sig κ sp S e) {off : Fin S.rank → Nat}
    (h : off = fun _ => 0) (inb : ∀ a, off a + S.size a ≤ S.size a) (w : S.Idx → Elt F e) (r : Rect S) :
    v.readCov [(⟨Rect.unit off S.size inb, w⟩ : View.Piece (Elt F) S e)] r.toLoadRect = View.ld w r := by
  rw [View.readCov_eq_canon_ld _ _ _ (fun y => ⟨_, List.mem_singleton_self _, View.mem_set_unit_zero h inb y⟩),
    View.canon_unit_zero h]

/-- The condition of the body's first branch: the grid's first point. -/
abbrev atFirst (i : grid0.Coords) : Prop :=
  (Scalar.cmpi .ne (Scalar.extui (Scalar.cmpi .eq (BitVec.ofNat 32 (i 0).val) 0#32)) 0#32) = 1#1
/-- The condition of the body's second branch: the grid's last point. -/
abbrev atLast (i : grid0.Coords) : Prop := k0_cond2 i = 1#1

/-- What a grid point of the first pass makes of the running ring sums `s`: the sums with the block's masked pixels added. -/
abbrev step0 (i : grid0.Coords) (x0 x1 : Vec F S8x512x16 .f32) (x2 : Vec F S8x512x1 .i32) (s : Vec F S96x32 .f32) :
    Vec F S96x32 .f32 := k0_pay1 (k0_pay4 i x2) (k0_pay5 x0) x1 s

/-- The left (real) half of the ring sums, -/
abbrev halfL (s : Vec F S96x32 .f32) : Vec F S96x16 .f32 := View.ld s (Rect.unit ![0, 0] S96x16.size inb_S96x32_S96x16_0_0)
/-- and the right (imaginary) half. -/
abbrev halfR (s : Vec F S96x32 .f32) : Vec F S96x16 .f32 := View.ld s (Rect.unit ![0, 16] S96x16.size inb_S96x32_S96x16_0_16)

/-- What the last point stores in the table of ring means, of the finished ring sums `s`. -/
abbrev out0 (x3 : Vec F S96x1 .f32) (x4 x5 : Vec F S16x16 .f32) (x6 x7 : Vec F S16x32 .f32) (s : Vec F S96x32 .f32) :
    Vec F S96x32 .f32 := k0_pay2 x3 (halfL s) (halfR s) x4 x5 x6 x7

set_option maxHeartbeats 2000000 in
/-- The body at the first point: whatever the sums' buffer held, it ends with the first block added to zero; the output buffer is not touched. -/
theorem body0_first (c : Dev nD) (E : Set ℕ) (i : grid0.Coords) (arg1 : Memref sig .tc .vmem S8x512x16 .f32) (harg1 : arg1.IsWhole) (arg2 : Memref sig .tc .vmem S8x512x16 .f32) (harg2 : arg2.IsWhole) (arg3 : Memref sig .tc .vmem S8x512x1 .i32) (harg3 : arg3.IsWhole) (arg4 : Memref sig .tc .vmem S96x1 .f32) (harg4 : arg4.IsWhole) (arg5 : Memref sig .tc .vmem S16x16 .f32) (harg5 : arg5.IsWhole) (arg6 : Memref sig .tc .vmem S16x16 .f32) (harg6 : arg6.IsWhole) (arg7 : Memref sig .tc .vmem S16x32 .f32) (harg7 : arg7.IsWhole) (arg8 : Memref sig .tc .vmem S16x32 .f32) (harg8 : arg8.IsWhole) (arg9 : Memref sig .tc .vmem S96x32 .f32) (harg9 : arg9.IsWhole) (arg10 : Memref sig .tc .vmem S96x32 .f32) (harg10 : arg10.IsWhole) (hc0 : atFirst i) (hc1 : ¬atLast i)
    (x0 : Vec F S8x512x16 .f32) (x1 : Vec F S8x512x16 .f32) (x2 : Vec F S8x512x1 .i32) (x3 : Vec F S96x1 .f32) (x4 : Vec F S16x16 .f32) (x5 : Vec F S16x16 .f32) (x6 : Vec F S16x32 .f32) (x7 : Vec F S16x32 .f32) (x8 xs : Vec F S96x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (step0 i x0 x1 x2 k0_pay3)) -∗ K ⟨⟩))
      ⊢ wp frame (wpE (defs₀ (F := F)) Variants.none c none) E (cc0__pass1 i arg1 harg1 arg2 harg2 arg3 harg3 arg4 harg4 arg5 harg5 arg6 harg6 arg7 harg7 arg8 harg8 arg9 harg9 arg10 harg10) K := by
  simp only [cc0__pass1_eq_skeleton]; unfold cc0__pass1_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; exact hf8
    iexact H8
  iexists _; isplitr
  swap; · iexact H9
  ipureintro
  refine (View.read_writes_eq_canon _ _ _ (fun y => ⟨_, List.mem_cons_self, View.mem_set_unit_zero zero2 inb_S96x32_S96x32_0_0 y⟩)).trans ?_
  refine (View.canon_cons_unit_zero zero2 inb_S96x32_S96x32_0_0 _ _).trans ?_
  delta body0_first.sl.r body0_first.sl.r_1 body0_first.sl.v45 body0_first.sl.H9_1 step0
  rw [readAt_zero arg3.view zero3 inb_S8x512x1_S8x512x1_0_0_0 f2,
    readAt_zero arg1.view zero3 inb_S8x512x16_S8x512x16_0_0_0 f0,
    readAt_zero arg2.view zero3 inb_S8x512x16_S8x512x16_0_0_0 f1,
    View.readCov_unit_zero arg10.view zero2 inb_S96x32_S96x32_0_0]

set_option maxHeartbeats 2000000 in
/-- The body at a middle point: the block is added to the sums; the output buffer is not touched. -/
theorem body0_mid (c : Dev nD) (E : Set ℕ) (i : grid0.Coords) (arg1 : Memref sig .tc .vmem S8x512x16 .f32) (harg1 : arg1.IsWhole) (arg2 : Memref sig .tc .vmem S8x512x16 .f32) (harg2 : arg2.IsWhole) (arg3 : Memref sig .tc .vmem S8x512x1 .i32) (harg3 : arg3.IsWhole) (arg4 : Memref sig .tc .vmem S96x1 .f32) (harg4 : arg4.IsWhole) (arg5 : Memref sig .tc .vmem S16x16 .f32) (harg5 : arg5.IsWhole) (arg6 : Memref sig .tc .vmem S16x16 .f32) (harg6 : arg6.IsWhole) (arg7 : Memref sig .tc .vmem S16x32 .f32) (harg7 : arg7.IsWhole) (arg8 : Memref sig .tc .vmem S16x32 .f32) (harg8 : arg8.IsWhole) (arg9 : Memref sig .tc .vmem S96x32 .f32) (harg9 : arg9.IsWhole) (arg10 : Memref sig .tc .vmem S96x32 .f32) (harg10 : arg10.IsWhole) (hc0 : ¬atFirst i) (hc1 : ¬atLast i)
    (x0 : Vec F S8x512x16 .f32) (x1 : Vec F S8x512x16 .f32) (x2 : Vec F S8x512x1 .i32) (x3 : Vec F S96x1 .f32) (x4 : Vec F S16x16 .f32) (x5 : Vec F S16x16 .f32) (x6 : Vec F S16x32 .f32) (x7 : Vec F S16x32 .f32) (x8 xs : Vec F S96x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (step0 i x0 x1 x2 xs)) -∗ K ⟨⟩))
      ⊢ wp frame (wpE (defs₀ (F := F)) Variants.none c none) E (cc0__pass1 i arg1 harg1 arg2 harg2 arg3 harg3 arg4 harg4 arg5 harg5 arg6 harg6 arg7 harg7 arg8 harg8 arg9 harg9 arg10 harg10) K := by
  simp only [cc0__pass1_eq_skeleton]; unfold cc0__pass1_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf0 hf1 hf2 hf3 hf4 hf5 hf6 hf7
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; exact hf8
    iexact H8
  iexists _; isplitr
  swap; · iexact H9
  ipureintro
  subst hf9
  refine (View.read_writes_eq_canon _ _ _ (fun y => ⟨_, List.mem_singleton_self _, View.mem_set_unit_zero zero2 inb_S96x32_S96x32_0_0 y⟩)).trans ?_
  refine (View.canon_unit_zero zero2 inb_S96x32_S96x32_0_0 _).trans ?_
  delta body0_mid.sl.r body0_mid.sl.r_1 step0
  rw [readAt_zero arg3.view zero3 inb_S8x512x1_S8x512x1_0_0_0 f2,
    readAt_zero arg1.view zero3 inb_S8x512x16_S8x512x16_0_0_0 f0,
    readAt_zero arg2.view zero3 inb_S8x512x16_S8x512x16_0_0_0 f1,
    readAt_zero arg10.view zero2 inb_S96x32_S96x32_0_0 f9]

set_option maxHeartbeats 2000000 in
/-- The body at the last point: the block is added to the sums, and the output buffer ends with the means made of them. -/
theorem body0_last (c : Dev nD) (E : Set ℕ) (i : grid0.Coords) (arg1 : Memref sig .tc .vmem S8x512x16 .f32) (harg1 : arg1.IsWhole) (arg2 : Memref sig .tc .vmem S8x512x16 .f32) (harg2 : arg2.IsWhole) (arg3 : Memref sig .tc .vmem S8x512x1 .i32) (harg3 : arg3.IsWhole) (arg4 : Memref sig .tc .vmem S96x1 .f32) (harg4 : arg4.IsWhole) (arg5 : Memref sig .tc .vmem S16x16 .f32) (harg5 : arg5.IsWhole) (arg6 : Memref sig .tc .vmem S16x16 .f32) (harg6 : arg6.IsWhole) (arg7 : Memref sig .tc .vmem S16x32 .f32) (harg7 : arg7.IsWhole) (arg8 : Memref sig .tc .vmem S16x32 .f32) (harg8 : arg8.IsWhole) (arg9 : Memref sig .tc .vmem S96x32 .f32) (harg9 : arg9.IsWhole) (arg10 : Memref sig .tc .vmem S96x32 .f32) (harg10 : arg10.IsWhole) (hc0 : ¬atFirst i) (hc1 : atLast i)
    (x0 : Vec F S8x512x16 .f32) (x1 : Vec F S8x512x16 .f32) (x2 : Vec F S8x512x1 .i32) (x3 : Vec F S96x1 .f32) (x4 : Vec F S16x16 .f32) (x5 : Vec F S16x16 .f32) (x6 : Vec F S16x32 .f32) (x7 : Vec F S16x32 .f32) (x8 xs : Vec F S96x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out0 x3 x4 x5 x6 x7 (step0 i x0 x1 x2 xs)) ∗ owns (c : Thread nD τ) arg10 fullShare (step0 i x0 x1 x2 xs)) -∗ K ⟨⟩))
      ⊢ wp frame (wpE (defs₀ (F := F)) Variants.none c none) E (cc0__pass1 i arg1 harg1 arg2 harg2 arg3 harg3 arg4 harg4 arg5 harg5 arg6 harg6 arg7 harg7 arg8 harg8 arg9 harg9 arg10 harg10) K := by
  simp only [cc0__pass1_eq_skeleton]; unfold cc0__pass1_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, Hk⟩
  subst hf0 hf1 hf2 hf3 hf4 hf5 hf6 hf7
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    subst hf9
    refine (View.read_writes_eq_canon _ _ _ (fun y => ⟨_, List.mem_singleton_self _, View.mem_set_unit_zero zero2 inb_S96x32_S96x32_0_0 y⟩)).trans ?_
    refine (View.canon_unit_zero zero2 inb_S96x32_S96x32_0_0 _).trans ?_
    delta body0_last.sl.v56 body0_last.sl.v57 body0_last.sl.H9_1 out0 halfL halfR
    rw [readCov_whole arg10.view zero2 inb_S96x32_S96x32_0_0, readCov_whole arg10.view zero2 inb_S96x32_S96x32_0_0]
    delta body0_last.sl.r body0_last.sl.r_1 step0
    rw [readAt_zero arg3.view zero3 inb_S8x512x1_S8x512x1_0_0_0 f2,
      readAt_zero arg1.view zero3 inb_S8x512x16_S8x512x16_0_0_0 f0,
      readAt_zero arg2.view zero3 inb_S8x512x16_S8x512x16_0_0_0 f1,
      readAt_zero arg4.view zero2 inb_S96x1_S96x1_0_0 f3,
      readAt_zero arg5.view zero2 inb_S16x16_S16x16_0_0 f4,
      readAt_zero arg6.view zero2 inb_S16x16_S16x16_0_0 f5,
      readAt_zero arg7.view zero2 inb_S16x32_S16x32_0_0 f6,
      readAt_zero arg8.view zero2 inb_S16x32_S16x32_0_0 f7,
      readAt_zero arg10.view zero2 inb_S96x32_S96x32_0_0 f9]
  iexists _; isplitr
  swap; · iexact H9
  ipureintro
  subst hf9
  refine (View.read_writes_eq_canon _ _ _ (fun y => ⟨_, List.mem_singleton_self _, View.mem_set_unit_zero zero2 inb_S96x32_S96x32_0_0 y⟩)).trans ?_
  refine (View.canon_unit_zero zero2 inb_S96x32_S96x32_0_0 _).trans ?_
  delta body0_last.sl.r body0_last.sl.r_1 step0
  rw [readAt_zero arg3.view zero3 inb_S8x512x1_S8x512x1_0_0_0 f2,
    readAt_zero arg1.view zero3 inb_S8x512x16_S8x512x16_0_0_0 f0,
    readAt_zero arg2.view zero3 inb_S8x512x16_S8x512x16_0_0_0 f1,
    readAt_zero arg10.view zero2 inb_S96x32_S96x32_0_0 f9]

end Cert.KernelIdeal.Hand

end
-- ==== Proof.Points.lean ====
module

public import proofs.«01_k».proof.Proof.Pass1

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (W : Dev nD → Valuation τ sig (Elt F))

/-! ## The second pass -/

/-- Window `w`'s block of call 1's array at point `t`, the arrays as the call finds them. -/
def blk1 (c : Dev nD) (w : Fin cfg1.W) (t : Fin cfg1.N) : ((cfg1.win w).xblock (cfg1.grid.coords t)).Idx → Elt F (cfg1.win w).elt :=
  ((cfg1.win w).blk t).view.read (Elt F) (W c (Proc.devRef .tc (Pipeline.arrRef spec1 w)))

/-- The second pass's contents, point by point: each input's block stays, the output's block is `out1` of them. -/
def dat1 (c : Dev nD) : Dat τ (Elt F) Unit ℕ (UR sig nD τ) ℕ cfg1 c where
  A w := W c (Proc.devRef .tc (Pipeline.arrRef spec1 w))
  after w t := match w with
    | ⟨0, _⟩ => blk1 W c 0 t
    | ⟨1, _⟩ => blk1 W c 1 t
    | ⟨2, _⟩ => blk1 W c 2 t
    | ⟨3, _⟩ => blk1 W c 3 t
    | ⟨4, _⟩ => blk1 W c 4 t
    | ⟨5, _⟩ => blk1 W c 5 t
    | ⟨6, _⟩ => blk1 W c 6 t
    | ⟨7, _⟩ => blk1 W c 7 t
    | ⟨8, _⟩ => blk1 W c 8 t
    | ⟨9, _⟩ => blk1 W c 9 t
    | ⟨10, _⟩ => out1 (grid1.coords t) (blk1 W c 0 t) (blk1 W c 1 t) (blk1 W c 2 t) (blk1 W c 3 t) (blk1 W c 4 t) (blk1 W c 5 t) (blk1 W c 6 t) (blk1 W c 7 t) (blk1 W c 8 t) (blk1 W c 9 t)
  Φ _ := Pipeline.scopedRest spec1 c
  q _ := fullShare
  owed _ := 0

theorem dat1_A (c : Dev nD) (w : Fin cfg1.W) : (dat1 W c).A w = W c (Proc.devRef .tc (Pipeline.arrRef spec1 w)) := by
  dsimp only [dat1]

theorem after1_0 (c : Dev nD) (t : Fin cfg1.N) : (dat1 W c).after 0 t = blk1 W c 0 t := by dsimp only [dat1]
theorem before1_0 (c : Dev nD) (t : Fin cfg1.N) (d) : (dat1 W c).before 0 t d = blk1 W c 0 t :=
  ((dat1 W c).before_in_eq_fetched 0 rfl (fun _ => rfl) (fun _ _ _ => rfl)
    (fun t => by rw [after1_0]; unfold Dat.blockOf blk1; rw [dat1_A]; try rfl) t d).trans
    (by unfold Dat.fetched Dat.blockOf blk1; rw [dat1_A]; try rfl)
theorem after1_1 (c : Dev nD) (t : Fin cfg1.N) : (dat1 W c).after 1 t = blk1 W c 1 t := by dsimp only [dat1]
theorem before1_1 (c : Dev nD) (t : Fin cfg1.N) (d) : (dat1 W c).before 1 t d = blk1 W c 1 t :=
  ((dat1 W c).before_in_eq_fetched 1 rfl (fun _ => rfl) (fun _ _ _ => rfl)
    (fun t => by rw [after1_1]; unfold Dat.blockOf blk1; rw [dat1_A]; try rfl) t d).trans
    (by unfold Dat.fetched Dat.blockOf blk1; rw [dat1_A]; try rfl)
theorem after1_2 (c : Dev nD) (t : Fin cfg1.N) : (dat1 W c).after 2 t = blk1 W c 2 t := by dsimp only [dat1]
theorem before1_2 (c : Dev nD) (t : Fin cfg1.N) (d) : (dat1 W c).before 2 t d = blk1 W c 2 t :=
  ((dat1 W c).before_in_eq_fetched 2 rfl (fun _ => rfl) (fun _ _ _ => rfl)
    (fun t => by rw [after1_2]; unfold Dat.blockOf blk1; rw [dat1_A]; try rfl) t d).trans
    (by unfold Dat.fetched Dat.blockOf blk1; rw [dat1_A]; try rfl)
theorem after1_3 (c : Dev nD) (t : Fin cfg1.N) : (dat1 W c).after 3 t = blk1 W c 3 t := by dsimp only [dat1]
theorem before1_3 (c : Dev nD) (t : Fin cfg1.N) (d) : (dat1 W c).before 3 t d = blk1 W c 3 t :=
  ((dat1 W c).before_in_eq_fetched 3 rfl (fun _ => rfl) (fun _ _ _ => rfl)
    (fun t => by rw [after1_3]; unfold Dat.blockOf blk1; rw [dat1_A]; try rfl) t d).trans
    (by unfold Dat.fetched Dat.blockOf blk1; rw [dat1_A]; try rfl)
theorem after1_4 (c : Dev nD) (t : Fin cfg1.N) : (dat1 W c).after 4 t = blk1 W c 4 t := by dsimp only [dat1]
theorem before1_4 (c : Dev nD) (t : Fin cfg1.N) (d) : (dat1 W c).before 4 t d = blk1 W c 4 t :=
  ((dat1 W c).before_in_eq_fetched 4 rfl (fun _ => rfl) (fun _ _ _ => rfl)
    (fun t => by rw [after1_4]; unfold Dat.blockOf blk1; rw [dat1_A]; try rfl) t d).trans
    (by unfold Dat.fetched Dat.blockOf blk1; rw [dat1_A]; try rfl)
theorem after1_5 (c : Dev nD) (t : Fin cfg1.N) : (dat1 W c).after 5 t = blk1 W c 5 t := by dsimp only [dat1]
theorem before1_5 (c : Dev nD) (t : Fin cfg1.N) (d) : (dat1 W c).before 5 t d = blk1 W c 5 t :=
  ((dat1 W c).before_in_eq_fetched 5 rfl (fun _ => rfl) (fun _ _ _ => rfl)
    (fun t => by rw [after1_5]; unfold Dat.blockOf blk1; rw [dat1_A]; try rfl) t d).trans
    (by unfold Dat.fetched Dat.blockOf blk1; rw [dat1_A]; try rfl)
theorem after1_6 (c : Dev nD) (t : Fin cfg1.N) : (dat1 W c).after 6 t = blk1 W c 6 t := by dsimp only [dat1]
theorem before1_6 (c : Dev nD) (t : Fin cfg1.N) (d) : (dat1 W c).before 6 t d = blk1 W c 6 t :=
  ((dat1 W c).before_in_eq_fetched 6 rfl (fun _ => rfl) (fun _ _ _ => rfl)
    (fun t => by rw [after1_6]; unfold Dat.blockOf blk1; rw [dat1_A]; try rfl) t d).trans
    (by unfold Dat.fetched Dat.blockOf blk1; rw [dat1_A]; try rfl)
theorem after1_7 (c : Dev nD) (t : Fin cfg1.N) : (dat1 W c).after 7 t = blk1 W c 7 t := by dsimp only [dat1]
theorem before1_7 (c : Dev nD) (t : Fin cfg1.N) (d) : (dat1 W c).before 7 t d = blk1 W c 7 t :=
  ((dat1 W c).before_in_eq_fetched 7 rfl (fun _ => rfl) (fun _ _ _ => rfl)
    (fun t => by rw [after1_7]; unfold Dat.blockOf blk1; rw [dat1_A]; try rfl) t d).trans
    (by unfold Dat.fetched Dat.blockOf blk1; rw [dat1_A]; try rfl)
theorem after1_8 (c : Dev nD) (t : Fin cfg1.N) : (dat1 W c).after 8 t = blk1 W c 8 t := by dsimp only [dat1]
theorem before1_8 (c : Dev nD) (t : Fin cfg1.N) (d) : (dat1 W c).before 8 t d = blk1 W c 8 t :=
  ((dat1 W c).before_in_eq_fetched 8 rfl (fun _ => rfl) (fun _ _ _ => rfl)
    (fun t => by rw [after1_8]; unfold Dat.blockOf blk1; rw [dat1_A]; try rfl) t d).trans
    (by unfold Dat.fetched Dat.blockOf blk1; rw [dat1_A]; try rfl)
theorem after1_9 (c : Dev nD) (t : Fin cfg1.N) : (dat1 W c).after 9 t = blk1 W c 9 t := by dsimp only [dat1]
theorem before1_9 (c : Dev nD) (t : Fin cfg1.N) (d) : (dat1 W c).before 9 t d = blk1 W c 9 t :=
  ((dat1 W c).before_in_eq_fetched 9 rfl (fun _ => rfl) (fun _ _ _ => rfl)
    (fun t => by rw [after1_9]; unfold Dat.blockOf blk1; rw [dat1_A]; try rfl) t d).trans
    (by unfold Dat.fetched Dat.blockOf blk1; rw [dat1_A]; try rfl)

theorem after1_10 (c : Dev nD) (t : Fin cfg1.N) : (dat1 W c).after 10 t = out1 (grid1.coords t) (blk1 W c 0 t) (blk1 W c 1 t) (blk1 W c 2 t) (blk1 W c 3 t) (blk1 W c 4 t) (blk1 W c 5 t) (blk1 W c 6 t) (blk1 W c 7 t) (blk1 W c 8 t) (blk1 W c 9 t) := by
  dsimp only [dat1]

/-- What the second pass's body is called with at a point, -/
def pre1 (c : Dev nD) (t : Fin cfg1.N) : sProp 𝕄 :=
  iprop((dat1 W c).Φ t.castSucc ∗ (dat1 W c).owesAt () t.castSucc
    ∗ (∃ d, owns (c : Thread nD τ) (st1_0 t) fullShare ((dat1 W c).before 0 t d))
    ∗ (∃ d, owns (c : Thread nD τ) (st1_1 t) fullShare ((dat1 W c).before 1 t d))
    ∗ (∃ d, owns (c : Thread nD τ) (st1_2 t) fullShare ((dat1 W c).before 2 t d))
    ∗ (∃ d, owns (c : Thread nD τ) (st1_3 t) fullShare ((dat1 W c).before 3 t d))
    ∗ (∃ d, owns (c : Thread nD τ) (st1_4 t) fullShare ((dat1 W c).before 4 t d))
    ∗ (∃ d, owns (c : Thread nD τ) (st1_5 t) fullShare ((dat1 W c).before 5 t d))
    ∗ (∃ d, owns (c : Thread nD τ) (st1_6 t) fullShare ((dat1 W c).before 6 t d))
    ∗ (∃ d, owns (c : Thread nD τ) (st1_7 t) fullShare ((dat1 W c).before 7 t d))
    ∗ (∃ d, owns (c : Thread nD τ) (st1_8 t) fullShare ((dat1 W c).before 8 t d))
    ∗ (∃ d, owns (c : Thread nD τ) (st1_9 t) fullShare ((dat1 W c).before 9 t d))
    ∗ (∃ d, owns (c : Thread nD τ) (st1_10 t) fullShare ((dat1 W c).before 10 t d)))
/-- and what it gives back. -/
def post1 (c : Dev nD) (t : Fin cfg1.N) : sProp 𝕄 :=
  iprop((dat1 W c).Φ t.succ ∗ (dat1 W c).owesAt () t.succ
    ∗ (dat1 W c).leavesExact 0 t
    ∗ (dat1 W c).leavesExact 1 t
    ∗ (dat1 W c).leavesExact 2 t
    ∗ (dat1 W c).leavesExact 3 t
    ∗ (dat1 W c).leavesExact 4 t
    ∗ (dat1 W c).leavesExact 5 t
    ∗ (dat1 W c).leavesExact 6 t
    ∗ (dat1 W c).leavesExact 7 t
    ∗ (dat1 W c).leavesExact 8 t
    ∗ (dat1 W c).leavesExact 9 t
    ∗ (dat1 W c).leavesExact 10 t)

set_option maxHeartbeats 2000000 in
/-- The second pass's body at any point. -/
theorem point1 (c : Dev nD) (t : Fin cfg1.N) :
    pre1 W c t ⊢ wp frame (wpE (defs₀ (F := F)) Variants.none c none) Set.univ (bodyAt1 t) (fun _ => post1 W c t) := by
  unfold pre1 post1 bodyAt1
  simp only [before1_0, before1_1, before1_2, before1_3, before1_4, before1_5, before1_6, before1_7, before1_8, before1_9]
  rw [show (dat1 W c).leavesExact 0 t = owns (c : Thread nD τ) (st1_0 t) fullShare (blk1 W c 0 t) from by
      unfold Dat.leavesExact; rw [show cfg1.idle 0 (cfg1.grid.coords t) = false from rfl, after1_0]]
  rw [show (dat1 W c).leavesExact 1 t = owns (c : Thread nD τ) (st1_1 t) fullShare (blk1 W c 1 t) from by
      unfold Dat.leavesExact; rw [show cfg1.idle 1 (cfg1.grid.coords t) = false from rfl, after1_1]]
  rw [show (dat1 W c).leavesExact 2 t = owns (c : Thread nD τ) (st1_2 t) fullShare (blk1 W c 2 t) from by
      unfold Dat.leavesExact; rw [show cfg1.idle 2 (cfg1.grid.coords t) = false from rfl, after1_2]]
  rw [show (dat1 W c).leavesExact 3 t = owns (c : Thread nD τ) (st1_3 t) fullShare (blk1 W c 3 t) from by
      unfold Dat.leavesExact; rw [show cfg1.idle 3 (cfg1.grid.coords t) = false from rfl, after1_3]]
  rw [show (dat1 W c).leavesExact 4 t = owns (c : Thread nD τ) (st1_4 t) fullShare (blk1 W c 4 t) from by
      unfold Dat.leavesExact; rw [show cfg1.idle 4 (cfg1.grid.coords t) = false from rfl, after1_4]]
  rw [show (dat1 W c).leavesExact 5 t = owns (c : Thread nD τ) (st1_5 t) fullShare (blk1 W c 5 t) from by
      unfold Dat.leavesExact; rw [show cfg1.idle 5 (cfg1.grid.coords t) = false from rfl, after1_5]]
  rw [show (dat1 W c).leavesExact 6 t = owns (c : Thread nD τ) (st1_6 t) fullShare (blk1 W c 6 t) from by
      unfold Dat.leavesExact; rw [show cfg1.idle 6 (cfg1.grid.coords t) = false from rfl, after1_6]]
  rw [show (dat1 W c).leavesExact 7 t = owns (c : Thread nD τ) (st1_7 t) fullShare (blk1 W c 7 t) from by
      unfold Dat.leavesExact; rw [show cfg1.idle 7 (cfg1.grid.coords t) = false from rfl, after1_7]]
  rw [show (dat1 W c).leavesExact 8 t = owns (c : Thread nD τ) (st1_8 t) fullShare (blk1 W c 8 t) from by
      unfold Dat.leavesExact; rw [show cfg1.idle 8 (cfg1.grid.coords t) = false from rfl, after1_8]]
  rw [show (dat1 W c).leavesExact 9 t = owns (c : Thread nD τ) (st1_9 t) fullShare (blk1 W c 9 t) from by
      unfold Dat.leavesExact; rw [show cfg1.idle 9 (cfg1.grid.coords t) = false from rfl, after1_9]]
  rw [show (dat1 W c).leavesExact 10 t = owns (c : Thread nD τ) (st1_10 t) fullShare ((dat1 W c).after 10 t) from by
      unfold Dat.leavesExact; rw [show cfg1.idle 10 (cfg1.grid.coords t) = false from rfl], after1_10,
    show (dat1 W c).Φ t.succ = (dat1 W c).Φ t.castSucc from rfl,
    show (dat1 W c).owesAt () t.succ = (dat1 W c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (body1 c Set.univ (grid1.coords t) _ _ _ _ _ _ _ _ _ _ _ _ _ _ _ _ _ _ _ _ _ _ (blk1 W c 0 t) (blk1 W c 1 t) (blk1 W c 2 t) (blk1 W c 3 t) (blk1 W c 4 t) (blk1 W c 5 t) (blk1 W c 6 t) (blk1 W c 7 t) (blk1 W c 8 t) (blk1 W c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The second pass's body keeps its contract at every point. -/
theorem obligation1 (c : Dev nD) : BodyObligation (dat1 W c) (defs₀ (F := F)) Variants.none () Set.univ := fun t => by
  rw [bigSep_W1, bigSep_W1, show defs₀ (F := F) .tc cfg1.body (cfg1.bodyArgs t (cfg1.slots t)) = bodyAt1 t from by
    unfold defs₀; rw [Defs.onTc_tc]]
  exact triple_restated (point1 W c t) rfl .rfl fun _ => .rfl

/-! ## The first pass -/

/-- Window `w`'s block of call 0's array at point `t`, the arrays as the call finds them. -/
def blk0 (c : Dev nD) (w : Fin cfg0.W) (t : Fin cfg0.N) : ((cfg0.win w).xblock (cfg0.grid.coords t)).Idx → Elt F (cfg0.win w).elt :=
  ((cfg0.win w).blk t).view.read (Elt F) (W c (Proc.devRef .tc (Pipeline.arrRef spec0 w)))

/-- The first branch is taken at point 0 only, -/
theorem atFirst_iff : ∀ t : Fin cfg0.N, atFirst (grid0.coords t) ↔ t.val = 0 :=
  (fun t => by
    have e0 : (grid0.coords t 0).val = t.val / 1 % 64 := Pipeline.Grid.coords_val t 0 (by decide) rfl
    have hN : t.val < 64 := lt_of_lt_of_eq t.isLt (show cfg0.N = 64 from N_0)
    rw [Nat.div_one, Nat.mod_eq_of_lt hN] at e0
    simp only [atFirst, e0]
    word_cmp
   : ∀ t : Fin grid0.N, atFirst (grid0.coords t) ↔ t.val = 0)
/-- and the second at point 63 only. -/
theorem atLast_iff : ∀ t : Fin cfg0.N, atLast (grid0.coords t) ↔ t.val = 63 :=
  (fun t => by
    have e0 : (grid0.coords t 0).val = t.val / 1 % 64 := Pipeline.Grid.coords_val t 0 (by decide) rfl
    have hN : t.val < 64 := lt_of_lt_of_eq t.isLt (show cfg0.N = 64 from N_0)
    rw [Nat.div_one, Nat.mod_eq_of_lt hN] at e0
    simp only [atLast, k0_cond2, e0]
    word_cmp
   : ∀ t : Fin grid0.N, atLast (grid0.coords t) ↔ t.val = 63)

/-- Before the last point the output window stands idle and is not written back; -/
theorem idle0_8 : ∀ t : Fin cfg0.N, ¬atLast (grid0.coords t) → cfg0.idle 8 (grid0.coords t) = true := by decide +kernel
theorem noFlush0_8 : ∀ t : Fin cfg0.N, ¬atLast (grid0.coords t) → (cfg0.win 8).flush t = false := by decide +kernel
/-- at the last point it is stored. -/
theorem live0_8 : ∀ t : Fin cfg0.N, atLast (grid0.coords t) → cfg0.idle 8 (grid0.coords t) = false := by decide +kernel

/-- The running ring sums after point `n`: the blocks of points 0 … n added, one after the other, to zero. -/
def acc0 (c : Dev nD) : (n : ℕ) → n < cfg0.N → Vec F S96x32 .f32
  | 0, h => step0 (grid0.coords ⟨0, h⟩) (blk0 W c 0 ⟨0, h⟩) (blk0 W c 1 ⟨0, h⟩) (blk0 W c 2 ⟨0, h⟩) k0_pay3
  | n + 1, h => step0 (grid0.coords ⟨n + 1, h⟩) (blk0 W c 0 ⟨n + 1, h⟩) (blk0 W c 1 ⟨n + 1, h⟩) (blk0 W c 2 ⟨n + 1, h⟩)
      (acc0 c n (Nat.lt_of_succ_lt h))

theorem acc0_zero (c : Dev nD) (t : Fin cfg0.N) (h : t.val = 0) :
    acc0 W c t.val t.isLt = step0 (grid0.coords t) (blk0 W c 0 t) (blk0 W c 1 t) (blk0 W c 2 t) k0_pay3 := by
  obtain ⟨n, hn⟩ := t
  cases n with
  | zero => rfl
  | succ n => exact absurd h (Nat.succ_ne_zero n)

theorem acc0_pos (c : Dev nD) (t : Fin cfg0.N) (h : t.val ≠ 0) :
    acc0 W c t.val t.isLt = step0 (grid0.coords t) (blk0 W c 0 t) (blk0 W c 1 t) (blk0 W c 2 t)
      (acc0 W c (t.val - 1) (by have := t.isLt; omega)) := by
  obtain ⟨n, hn⟩ := t
  cases n with
  | zero => exact absurd rfl h
  | succ n => rfl

/-- The buffer of the ring sums, whole. -/
abbrev sums : Memref sig .tc .vmem S96x32 .f32 := Memref.whole cc0_scratch0
/-- The scoped buffers the first pass does not use: the second pass's staging buffers. -/
abbrev rest0 (c : Dev nD) : sProp 𝕄 :=
  Pipeline.scopedRestBut (Ix := Unit) (Name := ℕ) (U := UR sig nD τ) (Lvl := ℕ) (Val := Elt F) spec0 c [cc0_scratch0]

/-- What holds between points: before the first the sums' buffer is at anything, afterwards at the sums so far. -/
def inv0 (c : Dev nD) : (n : ℕ) → n ≤ cfg0.N → sProp 𝕄
  | 0, _ => iprop((∃ d, owns (c : Thread nD τ) sums fullShare d) ∗ rest0 c)
  | n + 1, h => iprop(owns (c : Thread nD τ) sums fullShare (acc0 W c n h) ∗ rest0 c)

theorem inv0_zero (c : Dev nD) (n : ℕ) (h : n ≤ cfg0.N) (hz : n = 0) :
    inv0 W c n h = iprop((∃ d, owns (c : Thread nD τ) sums fullShare d) ∗ rest0 c) := by
  subst hz; rfl

theorem inv0_pos (c : Dev nD) (n : ℕ) (h : n ≤ cfg0.N) (hz : n ≠ 0) :
    inv0 W c n h = iprop(owns (c : Thread nD τ) sums fullShare (acc0 W c (n - 1) (by omega)) ∗ rest0 c) := by
  cases n with
  | zero => exact absurd rfl hz
  | succ n => rfl

/-- The first pass's contents, point by point: each input's block stays, and the output's block is the means made of the
    sums (it is stored, and read back, at the last point alone). -/
def dat0 (c : Dev nD) : Dat τ (Elt F) Unit ℕ (UR sig nD τ) ℕ cfg0 c where
  A w := W c (Proc.devRef .tc (Pipeline.arrRef spec0 w))
  after w t := match w with
    | ⟨0, _⟩ => blk0 W c 0 t
    | ⟨1, _⟩ => blk0 W c 1 t
    | ⟨2, _⟩ => blk0 W c 2 t
    | ⟨3, _⟩ => blk0 W c 3 t
    | ⟨4, _⟩ => blk0 W c 4 t
    | ⟨5, _⟩ => blk0 W c 5 t
    | ⟨6, _⟩ => blk0 W c 6 t
    | ⟨7, _⟩ => blk0 W c 7 t
    | ⟨8, _⟩ => out0 (blk0 W c 3 t) (blk0 W c 4 t) (blk0 W c 5 t) (blk0 W c 6 t) (blk0 W c 7 t) (acc0 W c t.val t.isLt)
  Φ t := inv0 W c t.val (Nat.le_of_lt_succ t.isLt)
  q _ := fullShare
  owed _ := 0

theorem dat0_A (c : Dev nD) (w : Fin cfg0.W) : (dat0 W c).A w = W c (Proc.devRef .tc (Pipeline.arrRef spec0 w)) := by
  dsimp only [dat0]

theorem after0_0 (c : Dev nD) (t : Fin cfg0.N) : (dat0 W c).after 0 t = blk0 W c 0 t := by dsimp only [dat0]
theorem before0_0 (c : Dev nD) (t : Fin cfg0.N) (d) : (dat0 W c).before 0 t d = blk0 W c 0 t :=
  ((dat0 W c).before_in_eq_fetched 0 rfl (fun _ => rfl) (fun _ _ _ => rfl)
    (fun t => by rw [after0_0]; unfold Dat.blockOf blk0; rw [dat0_A]; try rfl) t d).trans
    (by unfold Dat.fetched Dat.blockOf blk0; rw [dat0_A]; try rfl)
theorem after0_1 (c : Dev nD) (t : Fin cfg0.N) : (dat0 W c).after 1 t = blk0 W c 1 t := by dsimp only [dat0]
theorem before0_1 (c : Dev nD) (t : Fin cfg0.N) (d) : (dat0 W c).before 1 t d = blk0 W c 1 t :=
  ((dat0 W c).before_in_eq_fetched 1 rfl (fun _ => rfl) (fun _ _ _ => rfl)
    (fun t => by rw [after0_1]; unfold Dat.blockOf blk0; rw [dat0_A]; try rfl) t d).trans
    (by unfold Dat.fetched Dat.blockOf blk0; rw [dat0_A]; try rfl)
theorem after0_2 (c : Dev nD) (t : Fin cfg0.N) : (dat0 W c).after 2 t = blk0 W c 2 t := by dsimp only [dat0]
theorem before0_2 (c : Dev nD) (t : Fin cfg0.N) (d) : (dat0 W c).before 2 t d = blk0 W c 2 t :=
  ((dat0 W c).before_in_eq_fetched 2 rfl (fun _ => rfl) (fun _ _ _ => rfl)
    (fun t => by rw [after0_2]; unfold Dat.blockOf blk0; rw [dat0_A]; try rfl) t d).trans
    (by unfold Dat.fetched Dat.blockOf blk0; rw [dat0_A]; try rfl)
theorem after0_3 (c : Dev nD) (t : Fin cfg0.N) : (dat0 W c).after 3 t = blk0 W c 3 t := by dsimp only [dat0]
theorem before0_3 (c : Dev nD) (t : Fin cfg0.N) (d) : (dat0 W c).before 3 t d = blk0 W c 3 t :=
  ((dat0 W c).before_in_eq_fetched 3 rfl (fun _ => rfl) (fun _ _ _ => rfl)
    (fun t => by rw [after0_3]; unfold Dat.blockOf blk0; rw [dat0_A]; try rfl) t d).trans
    (by unfold Dat.fetched Dat.blockOf blk0; rw [dat0_A]; try rfl)
theorem after0_4 (c : Dev nD) (t : Fin cfg0.N) : (dat0 W c).after 4 t = blk0 W c 4 t := by dsimp only [dat0]
theorem before0_4 (c : Dev nD) (t : Fin cfg0.N) (d) : (dat0 W c).before 4 t d = blk0 W c 4 t :=
  ((dat0 W c).before_in_eq_fetched 4 rfl (fun _ => rfl) (fun _ _ _ => rfl)
    (fun t => by rw [after0_4]; unfold Dat.blockOf blk0; rw [dat0_A]; try rfl) t d).trans
    (by unfold Dat.fetched Dat.blockOf blk0; rw [dat0_A]; try rfl)
theorem after0_5 (c : Dev nD) (t : Fin cfg0.N) : (dat0 W c).after 5 t = blk0 W c 5 t := by dsimp only [dat0]
theorem before0_5 (c : Dev nD) (t : Fin cfg0.N) (d) : (dat0 W c).before 5 t d = blk0 W c 5 t :=
  ((dat0 W c).before_in_eq_fetched 5 rfl (fun _ => rfl) (fun _ _ _ => rfl)
    (fun t => by rw [after0_5]; unfold Dat.blockOf blk0; rw [dat0_A]; try rfl) t d).trans
    (by unfold Dat.fetched Dat.blockOf blk0; rw [dat0_A]; try rfl)
theorem after0_6 (c : Dev nD) (t : Fin cfg0.N) : (dat0 W c).after 6 t = blk0 W c 6 t := by dsimp only [dat0]
theorem before0_6 (c : Dev nD) (t : Fin cfg0.N) (d) : (dat0 W c).before 6 t d = blk0 W c 6 t :=
  ((dat0 W c).before_in_eq_fetched 6 rfl (fun _ => rfl) (fun _ _ _ => rfl)
    (fun t => by rw [after0_6]; unfold Dat.blockOf blk0; rw [dat0_A]; try rfl) t d).trans
    (by unfold Dat.fetched Dat.blockOf blk0; rw [dat0_A]; try rfl)
theorem after0_7 (c : Dev nD) (t : Fin cfg0.N) : (dat0 W c).after 7 t = blk0 W c 7 t := by dsimp only [dat0]
theorem before0_7 (c : Dev nD) (t : Fin cfg0.N) (d) : (dat0 W c).before 7 t d = blk0 W c 7 t :=
  ((dat0 W c).before_in_eq_fetched 7 rfl (fun _ => rfl) (fun _ _ _ => rfl)
    (fun t => by rw [after0_7]; unfold Dat.blockOf blk0; rw [dat0_A]; try rfl) t d).trans
    (by unfold Dat.fetched Dat.blockOf blk0; rw [dat0_A]; try rfl)

theorem after0_8 (c : Dev nD) (t : Fin cfg0.N) : (dat0 W c).after 8 t
    = out0 (blk0 W c 3 t) (blk0 W c 4 t) (blk0 W c 5 t) (blk0 W c 6 t) (blk0 W c 7 t) (acc0 W c t.val t.isLt) := by
  dsimp only [dat0]

theorem inv0_castSucc (c : Dev nD) (t : Fin cfg0.N) : (dat0 W c).Φ t.castSucc = inv0 W c t.val (Nat.le_of_lt t.isLt) := by
  dsimp only [dat0]; exact Pipeline.Dat.Φ_castSucc (inv0 W c) t

/-- What the first pass's body is called with at a point, -/
def pre0 (c : Dev nD) (t : Fin cfg0.N) : sProp 𝕄 :=
  iprop((dat0 W c).Φ t.castSucc ∗ (dat0 W c).owesAt () t.castSucc
    ∗ (∃ d, owns (c : Thread nD τ) (st0_0 t) fullShare ((dat0 W c).before 0 t d))
    ∗ (∃ d, owns (c : Thread nD τ) (st0_1 t) fullShare ((dat0 W c).before 1 t d))
    ∗ (∃ d, owns (c : Thread nD τ) (st0_2 t) fullShare ((dat0 W c).before 2 t d))
    ∗ (∃ d, owns (c : Thread nD τ) (st0_3 t) fullShare ((dat0 W c).before 3 t d))
    ∗ (∃ d, owns (c : Thread nD τ) (st0_4 t) fullShare ((dat0 W c).before 4 t d))
    ∗ (∃ d, owns (c : Thread nD τ) (st0_5 t) fullShare ((dat0 W c).before 5 t d))
    ∗ (∃ d, owns (c : Thread nD τ) (st0_6 t) fullShare ((dat0 W c).before 6 t d))
    ∗ (∃ d, owns (c : Thread nD τ) (st0_7 t) fullShare ((dat0 W c).before 7 t d))
    ∗ (∃ d, owns (c : Thread nD τ) (st0_8 t) fullShare ((dat0 W c).before 8 t d)))
/-- and what it gives back. -/
def post0 (c : Dev nD) (t : Fin cfg0.N) : sProp 𝕄 :=
  iprop((dat0 W c).Φ t.succ ∗ (dat0 W c).owesAt () t.succ
    ∗ (dat0 W c).leavesExact 0 t
    ∗ (dat0 W c).leavesExact 1 t
    ∗ (dat0 W c).leavesExact 2 t
    ∗ (dat0 W c).leavesExact 3 t
    ∗ (dat0 W c).leavesExact 4 t
    ∗ (dat0 W c).leavesExact 5 t
    ∗ (dat0 W c).leavesExact 6 t
    ∗ (dat0 W c).leavesExact 7 t
    ∗ (dat0 W c).leavesExact 8 t)

set_option maxHeartbeats 4000000 in
/-- The first pass's body at any point. -/
theorem point0 (c : Dev nD) (t : Fin cfg0.N) :
    pre0 W c t ⊢ wp frame (wpE (defs₀ (F := F)) Variants.none c none) Set.univ (bodyAt0 t) (fun _ => post0 W c t) := by
  unfold pre0 post0 bodyAt0
  simp only [before0_0, before0_1, before0_2, before0_3, before0_4, before0_5, before0_6, before0_7]
  rw [show (dat0 W c).leavesExact 0 t = owns (c : Thread nD τ) (st0_0 t) fullShare (blk0 W c 0 t) from by
      unfold Dat.leavesExact; rw [show cfg0.idle 0 (cfg0.grid.coords t) = false from rfl, after0_0]]
  rw [show (dat0 W c).leavesExact 1 t = owns (c : Thread nD τ) (st0_1 t) fullShare (blk0 W c 1 t) from by
      unfold Dat.leavesExact; rw [show cfg0.idle 1 (cfg0.grid.coords t) = false from rfl, after0_1]]
  rw [show (dat0 W c).leavesExact 2 t = owns (c : Thread nD τ) (st0_2 t) fullShare (blk0 W c 2 t) from by
      unfold Dat.leavesExact; rw [show cfg0.idle 2 (cfg0.grid.coords t) = false from rfl, after0_2]]
  rw [show (dat0 W c).leavesExact 3 t = owns (c : Thread nD τ) (st0_3 t) fullShare (blk0 W c 3 t) from by
      unfold Dat.leavesExact; rw [show cfg0.idle 3 (cfg0.grid.coords t) = false from rfl, after0_3]]
  rw [show (dat0 W c).leavesExact 4 t = owns (c : Thread nD τ) (st0_4 t) fullShare (blk0 W c 4 t) from by
      unfold Dat.leavesExact; rw [show cfg0.idle 4 (cfg0.grid.coords t) = false from rfl, after0_4]]
  rw [show (dat0 W c).leavesExact 5 t = owns (c : Thread nD τ) (st0_5 t) fullShare (blk0 W c 5 t) from by
      unfold Dat.leavesExact; rw [show cfg0.idle 5 (cfg0.grid.coords t) = false from rfl, after0_5]]
  rw [show (dat0 W c).leavesExact 6 t = owns (c : Thread nD τ) (st0_6 t) fullShare (blk0 W c 6 t) from by
      unfold Dat.leavesExact; rw [show cfg0.idle 6 (cfg0.grid.coords t) = false from rfl, after0_6]]
  rw [show (dat0 W c).leavesExact 7 t = owns (c : Thread nD τ) (st0_7 t) fullShare (blk0 W c 7 t) from by
      unfold Dat.leavesExact; rw [show cfg0.idle 7 (cfg0.grid.coords t) = false from rfl, after0_7]]
  rw [show (dat0 W c).owesAt () t.succ = (dat0 W c).owesAt () t.castSucc from rfl,
    show (dat0 W c).Φ t.succ = iprop(owns (c : Thread nD τ) sums fullShare (acc0 W c t.val t.isLt) ∗ rest0 c) from rfl,
    inv0_castSucc]
  have hN : t.val < 64 := lt_of_lt_of_eq t.isLt (show cfg0.N = 64 from N_0)
  by_cases h : t.val = 0
  · have h0 := (atFirst_iff t).mpr h
    have h1 : ¬atLast (grid0.coords t) := fun e => by have := (atLast_iff t).mp e; omega
    rw [Dat.leavesExact_idle (dat0 W c) 8 t (idle0_8 t h1) (noFlush0_8 t h1), inv0_zero W c _ _ h, acc0_zero W c t h]
    iintro ⟨⟨⟨%ds, HS⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (body0_first c Set.univ (grid0.coords t) _ _ _ _ _ _ _ _ _ _ _ _ _ _ _ _ _ _ _ _ h0 h1 (blk0 W c 0 t) (blk0 W c 1 t) (blk0 W c 2 t) (blk0 W c 3 t) (blk0 W c 4 t) (blk0 W c 5 t) (blk0 W c 6 t) (blk0 W c 7 t) ((dat0 W c).before 8 t d8) k0_pay3 _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS]; · iexists _; iexact HS
    iintro ⟨H0, H1, H2, H3, H4, H5, H6, H7, H8, HS⟩
    isplitl [HS Hr]
    · isplitl [HS]; · iexact HS
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists _; iexact H8
  by_cases h' : t.val = 63
  · have h0 : ¬atFirst (grid0.coords t) := fun e => h ((atFirst_iff t).mp e)
    have h1 := (atLast_iff t).mpr h'
    rw [show (dat0 W c).leavesExact 8 t = owns (c : Thread nD τ) (st0_8 t) fullShare ((dat0 W c).after 8 t) from by
        unfold Dat.leavesExact; rw [live0_8 t h1], after0_8, inv0_pos W c _ _ h, acc0_pos W c t h]
    iintro ⟨⟨HS, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (body0_last c Set.univ (grid0.coords t) _ _ _ _ _ _ _ _ _ _ _ _ _ _ _ _ _ _ _ _ h0 h1 (blk0 W c 0 t) (blk0 W c 1 t) (blk0 W c 2 t) (blk0 W c 3 t) (blk0 W c 4 t) (blk0 W c 5 t) (blk0 W c 6 t) (blk0 W c 7 t) k0_pay3 _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS]; · iexact HS
    iintro ⟨H0, H1, H2, H3, H4, H5, H6, H7, H8, HS⟩
    isplitl [HS Hr]
    · isplitl [HS]; · iexact HS
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · have h0 : ¬atFirst (grid0.coords t) := fun e => h ((atFirst_iff t).mp e)
    have h1 : ¬atLast (grid0.coords t) := fun e => h' ((atLast_iff t).mp e)
    rw [Dat.leavesExact_idle (dat0 W c) 8 t (idle0_8 t h1) (noFlush0_8 t h1), inv0_pos W c _ _ h, acc0_pos W c t h]
    iintro ⟨⟨HS, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (body0_mid c Set.univ (grid0.coords t) _ _ _ _ _ _ _ _ _ _ _ _ _ _ _ _ _ _ _ _ h0 h1 (blk0 W c 0 t) (blk0 W c 1 t) (blk0 W c 2 t) (blk0 W c 3 t) (blk0 W c 4 t) (blk0 W c 5 t) (blk0 W c 6 t) (blk0 W c 7 t) ((dat0 W c).before 8 t d8) _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS]; · iexact HS
    iintro ⟨H0, H1, H2, H3, H4, H5, H6, H7, H8, HS⟩
    isplitl [HS Hr]
    · isplitl [HS]; · iexact HS
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists _; iexact H8

/-- The first pass's body keeps its contract at every point. -/
theorem obligation0 (c : Dev nD) : BodyObligation (dat0 W c) (defs₀ (F := F)) Variants.none () Set.univ := fun t => by
  rw [bigSep_W0, bigSep_W0, show defs₀ (F := F) .tc cfg0.body (cfg0.bodyArgs t (cfg0.slots t)) = bodyAt0 t from by
    unfold defs₀; rw [Defs.onTc_tc]]
  exact triple_restated (point0 W c t) rfl .rfl fun _ => .rfl

/-- The scoped buffers no window stages: the sums' buffer and the rest. -/
theorem scoped0 (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f) ∗ rest0 c) :=
  Pipeline.scopedRest_split_of_list spec0 c [cc0_scratch0] (by decide) (by decide)

/-- The scoped buffers no window stages give the invariant before the first point, -/
theorem inv0_in (c : Dev nD) :
    iprop(Pipeline.scopedRest (Ix := Unit) (Name := ℕ) (U := UR sig nD τ) (Lvl := ℕ) (Val := Elt F) spec0 c ∗ BI.emp)
      ⊢ (dat0 W c).Φ 0 := by
  rw [show (dat0 W c).Φ 0 = iprop((∃ d, owns (c : Thread nD τ) sums fullShare d) ∗ rest0 c) from rfl,
    scoped0]
  simp only [owns_whole_eq]
  iintro ⟨⟨⟨%f, Hf⟩, Hr⟩, -⟩
  isplitl [Hf]
  · iexists f; iexists f; isplitr; · ipureintro; rfl
    iexact Hf
  iexact Hr

/-- and the invariant after the last gives them back. -/
theorem inv0_out (c : Dev nD) :
    (dat0 W c).Φ (Fin.last cfg0.N)
      ⊢ iprop(Pipeline.scopedRest (Ix := Unit) (Name := ℕ) (U := UR sig nD τ) (Lvl := ℕ) (Val := Elt F) spec0 c ∗ BI.emp) := by
  rw [show (dat0 W c).Φ (Fin.last cfg0.N) = inv0 W c cfg0.N le_rfl from rfl,
    inv0_pos W c _ _ (by rw [show cfg0.N = 64 from N_0]; decide),
    scoped0]
  simp only [owns_whole_eq]
  iintro ⟨⟨%f, -, Hf⟩, Hr⟩
  isplitl [Hf Hr]
  · isplitl [Hf]
    · iexists f; iexact Hf
    iexact Hr
  iempintro

end Cert.KernelIdeal.Hand

end
-- ==== Proof.Run.lean ====
module

public import proofs.«01_k».proof.Proof.Points
public import proofs.«01_k».proof.Proof.Gen.KernelIdeal.Regions
public import Idealize.ShloMosaic.Lib.Pipeline.RegionArraysS
public import Idealize.ShloMosaic.Adequacy

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the calls leave -/

/-- The buffers after the first pass: as it found them, its result's array as its write-backs left it. -/
def S4 (c : Dev nD) : Valuation τ sig (Elt F) :=
  Function.update (V3 m c) (Proc.devRef .tc main_v9) ((dat0 (V3 m) c).arrAt 8 cfg0.N)
/-- The buffers after the second pass, likewise. -/
def S5 (c : Dev nD) : Valuation τ sig (Elt F) :=
  Function.update (S4 m c) (Proc.devRef .tc main_v10) ((dat1 (S4 m) c).arrAt 10 cfg1.N)

/-- The two calls' results, in the form the buffers' contents between items are written over. -/
def outs : Outs (F := F) := fun J r c => match J with
  | 4 => S4 m c (Proc.devRef .tc r)
  | _ => S5 m c (Proc.devRef .tc r)

theorem V4_eq (c : Dev nD) : V4 m (outs m) c = S4 m c := by
  show Function.update (V3 m c) (Proc.devRef .tc main_v9) (S4 m c (Proc.devRef .tc main_v9)) = S4 m c
  unfold S4; rw [Function.update_self]

theorem V5_eq (c : Dev nD) : V5 m (outs m) c = S5 m c := by
  show Function.update (V4 m (outs m) c) (Proc.devRef .tc main_v10) (S5 m c (Proc.devRef .tc main_v10)) = S5 m c
  rw [V4_eq]; unfold S5; rw [Function.update_self]

/-- A device buffer outside the unscoped ones of the TensorCore is none of these. -/
theorem exists_ref {b : DevRef τ sig} (hb : b ∈ Pipeline.ucRefs τ sig) : ∃ r : Ref sig .tc, b = Proc.devRef .tc r := by
  obtain ⟨r, -, rfl⟩ := Finset.mem_map.mp (Finset.mem_filter.mp hb).1
  exact ⟨r, rfl⟩

/-- The first pass's contents at each of its arrays are those of `S4`, -/
theorem after0_eq (c : Dev nD) : ∀ b ∈ Pipeline.ucRefs τ sig, Pipeline.afterRegion (dat0 (V3 m) c) (V3 m c) b = S4 m c b := fun b hb => by
  obtain ⟨r, rfl⟩ := exists_ref hb
  by_cases hr : r = main_v9
  · subst hr
    refine (Pipeline.afterRegion_arr (dat0 (V3 m) c) (V3 m c) launch0.win.arr_inj 8).trans ?_
    unfold S4; rw [Function.update_self]
  · rw [Pipeline.afterRegion_keeps (dat0 (V3 m) c) (V3 m c) launch0.win.arr_inj (dat0_A (V3 m) c) r
      (fun w e => by revert w; decide +revert)]
    unfold S4; rw [Function.update_of_ne (StableHlo.devRef_ne_of_ne hr)]

/-- and the second's those of `S5`. -/
theorem after1_eq (c : Dev nD) : ∀ b ∈ Pipeline.ucRefs τ sig, Pipeline.afterRegion (dat1 (S4 m) c) (S4 m c) b = S5 m c b := fun b hb => by
  obtain ⟨r, rfl⟩ := exists_ref hb
  by_cases hr : r = main_v10
  · subst hr
    refine (Pipeline.afterRegion_arr (dat1 (S4 m) c) (S4 m c) launch1.win.arr_inj 10).trans ?_
    unfold S5; rw [Function.update_self]
  · rw [Pipeline.afterRegion_keeps (dat1 (S4 m) c) (S4 m c) launch1.win.arr_inj (dat1_A (S4 m) c) r
      (fun w e => by revert w; decide +revert)]
    unfold S5; rw [Function.update_of_ne (StableHlo.devRef_ne_of_ne hr)]

/-! ## The run -/

/-- One index at every semaphore of the TensorCores: no core owes another anything. -/
abbrev L : GSem nD τ sig → Finset Unit := fun g => if g.1.2 = .tc then {()} else ∅
abbrev lv : GSem nD τ sig → Unit → ℕ := fun _ _ => 0

/-- Both calls' contents. -/
def dats : (p : Fin 2) → (c : Dev nD) → Dat τ (Elt F) Unit ℕ (UR sig nD τ) ℕ (cfgs p) c
  | 0 => dat0 (V3 m)
  | 1 => dat1 (S4 m)

/-- What rides beside the buffers: what the core owes, which is nothing. -/
abbrev E (c : Dev nD) : sProp 𝕄 := iprop(∃ Wd, owes (c : Thread nD τ) (0 : CellTallies nD τ sig Unit) Wd)

theorem cut (p : Fin 2) : Pipeline.LevelCut (pcfgs (F := F)) adm () L lv p (fun _ => 0) fun _ => 0 :=
  ⟨fun c w s => by show () ∈ (if _ then _ else _); rw [if_pos rfl]; exact Finset.mem_singleton_self _,
    fun _ _ _ => le_refl _, fun c g i h => absurd h (lt_irrefl 0)⟩

set_option backward.isDefEq.respectTransparency.types false in
/-- The first pass as an item of the run. -/
def R0 : RegionSeg (pcfgs (F := F)) adm (dats m) () defs₀ Variants.none L lv 0 :=
  RegionSeg.ofHeldIn (pcfgs (F := F)) adm (dats m) () defs₀ Variants.none L lv 0 (fun _ => 0) (Pipeline.ucRefs τ sig)
    (fun _ => BI.emp) (fun _ => BI.emp) launch0.toP rfl (fun c => (obligation0 (V3 m) c).loose) (fun _ _ => rfl) (fun _ => rfl)
    (fun c => (dat0 (V3 m) c).share_full fun _ => rfl) (fun c => inv0_in (V3 m) c) (fun c => inv0_out (V3 m) c)
    (fun _ => 0) (cut 0) (fun _ => BI.emp) (V3 m) (fun c w => dat0_A (V3 m) c w)

set_option backward.isDefEq.respectTransparency.types false in
/-- The second pass as an item of the run. -/
def R1 : RegionSeg (pcfgs (F := F)) adm (dats m) () defs₀ Variants.none L lv 1 :=
  RegionSeg.ofHeldIn (pcfgs (F := F)) adm (dats m) () defs₀ Variants.none L lv 1 (fun _ => 0) (Pipeline.ucRefs τ sig)
    (fun _ => BI.emp) (fun _ => BI.emp) launch1.toP rfl (fun c => (obligation1 (S4 m) c).loose) (fun _ _ => rfl) (fun _ => rfl)
    (fun c => (dat1 (S4 m) c).share_full fun _ => rfl)
    (fun c => by
      show iprop(Pipeline.scopedRest spec1 c ∗ BI.emp) ⊢ Pipeline.scopedRest spec1 c
      iintro ⟨H, -⟩; iexact H)
    (fun c => by
      show Pipeline.scopedRest spec1 c ⊢ iprop(Pipeline.scopedRest spec1 c ∗ BI.emp)
      iintro H; isplitl [H]; · iexact H
      iempintro)
    (fun _ => 0) (cut 1) (fun _ => BI.emp) (S4 m) (fun c w => dat1_A (S4 m) c w)

theorem sub0 : Pipeline.arrRefs (τ := τ) spec0 ⊆ Pipeline.ucRefs τ sig := Pipeline.arrRefs_sub_ucRefs _ (by decide)
theorem sub1 : Pipeline.arrRefs (τ := τ) spec1 ⊆ Pipeline.ucRefs τ sig := Pipeline.arrRefs_sub_ucRefs _ (by decide)

set_option backward.isDefEq.respectTransparency.types false in
theorem R0_pre (c : Dev nD) : iprop(StableHlo.held (c : Thread nD τ) (Pipeline.ucRefs τ sig) (V3 m c) ∗ E c) ⊢ (R0 m).pre c := by
  unfold R0
  refine BIBase.Entails.trans ?_ (RegionSeg.ofHeldIn_pre (pcs := pcfgs (F := F)) (a := adm) (pdats := dats m) (ι := ()) (p := 0) (D := fun _ => 0) (R := fun _ => BI.emp) (W := V3 m) (X := fun _ => BI.emp) (Y := fun _ => BI.emp) sub0 c)
  iintro ⟨Hh, HO⟩
  isplitl [Hh]; · iexact Hh
  isplitl [HO]; · iexact HO
  isplitr <;> iempintro

set_option backward.isDefEq.respectTransparency.types false in
theorem R0_post (c : Dev nD) : (R0 m).post c ⊢ iprop(StableHlo.held (c : Thread nD τ) (Pipeline.ucRefs τ sig) (V4 m (outs m) c) ∗ E c) := by
  unfold R0
  refine BIBase.Entails.trans (RegionSeg.ofHeldIn_post (pcs := pcfgs (F := F)) (a := adm) (pdats := dats m) (ι := ()) (p := 0) (D := fun _ => 0) (R := fun _ => BI.emp) (W := V3 m) (X := fun _ => BI.emp) (Y := fun _ => BI.emp) sub0 c) ?_
  rw [V4_eq, ← StableHlo.held_congr (c : Thread nD τ) (after0_eq m c)]
  iintro ⟨Hh, HO, -⟩
  isplitl [Hh]; · iexact Hh
  iexact HO

set_option backward.isDefEq.respectTransparency.types false in
theorem R1_pre (c : Dev nD) : iprop(StableHlo.held (c : Thread nD τ) (Pipeline.ucRefs τ sig) (V4 m (outs m) c) ∗ E c) ⊢ (R1 m).pre c := by
  unfold R1
  refine BIBase.Entails.trans ?_ (RegionSeg.ofHeldIn_pre (pcs := pcfgs (F := F)) (a := adm) (pdats := dats m) (ι := ()) (p := 1) (D := fun _ => 0) (R := fun _ => BI.emp) (W := S4 m) (X := fun _ => BI.emp) (Y := fun _ => BI.emp) sub1 c)
  rw [V4_eq]
  iintro ⟨Hh, HO⟩
  isplitl [Hh]; · iexact Hh
  isplitl [HO]; · iexact HO
  isplitr <;> iempintro

set_option backward.isDefEq.respectTransparency.types false in
theorem R1_post (c : Dev nD) : (R1 m).post c ⊢ iprop(StableHlo.held (c : Thread nD τ) (Pipeline.ucRefs τ sig) (V5 m (outs m) c) ∗ E c) := by
  unfold R1
  refine BIBase.Entails.trans (RegionSeg.ofHeldIn_post (pcs := pcfgs (F := F)) (a := adm) (pdats := dats m) (ι := ()) (p := 1) (D := fun _ => 0) (R := fun _ => BI.emp) (W := S4 m) (X := fun _ => BI.emp) (Y := fun _ => BI.emp) sub1 c) ?_
  rw [V5_eq, ← StableHlo.held_congr (c : Thread nD τ) (after1_eq m c)]
  iintro ⟨Hh, HO, -⟩
  isplitl [Hh]; · iexact Hh
  iexact HO

/-- The result's buffer at the end: the second pass's array, its interleaved columns split in pairs. -/
def result (c : Dev nD) : (⟨S512x512x16x2, .f32⟩ : BufTy).Contents (Elt F) :=
  V6 m (outs m) c (Proc.devRef .tc main_v11)

set_option backward.isDefEq.respectTransparency.types false in
/-- From any memory the program ends, on every core, with `result` in the result's buffer, its arguments as launched,
    and every semaphore at zero. -/
theorem run : θ_run defs (onTc (τ := τ) (main (F := F))) ⟨m, fun _ => 0, ρ⟩ (fun r => (∀ c : Dev nD,
      r.2.mem ((c : Thread nD τ).loc main_v11) = result m c ∧ r.2.mem ((c : Thread nD τ).loc main_arg0) = m ((c : Thread nD τ).loc main_arg0) ∧ r.2.mem ((c : Thread nD τ).loc main_arg1) = m ((c : Thread nD τ).loc main_arg1) ∧ r.2.mem ((c : Thread nD τ).loc main_arg2) = m ((c : Thread nD τ).loc main_arg2) ∧ r.2.mem ((c : Thread nD τ).loc main_arg3) = m ((c : Thread nD τ).loc main_arg3) ∧ r.2.mem ((c : Thread nD τ).loc main_arg4) = m ((c : Thread nD τ).loc main_arg4) ∧ r.2.mem ((c : Thread nD τ).loc main_arg5) = m ((c : Thread nD τ).loc main_arg5) ∧ r.2.mem ((c : Thread nD τ).loc main_arg6) = m ((c : Thread nD τ).loc main_arg6) ∧ r.2.mem ((c : Thread nD τ).loc main_arg7) = m ((c : Thread nD τ).loc main_arg7) ∧ r.2.mem ((c : Thread nD τ).loc main_arg8) = m ((c : Thread nD τ).loc main_arg8))
      ∧ r.2.sem = fun _ => 0) := by
  refine Pipeline.θ_run_regions_kit_dev_sems (pcfgs (F := F)) adm (dats m) () cellOf_inj emb₁ defs₀ Variants.none L lv m ρ main
    (segs m (outs m) Variants.none L lv (fun _ => E) () (dats m) (R0 m) (R1 m))
    (fun c Q => by
      rewrite [main_chain c, Seg.run_eq_chain,
        show (segs m (outs m) Variants.none L lv (fun _ => E) () (dats m) (R0 m) (R1 m) c).map Seg.prog = [
          StableHlo.seq hostOps0, StableHlo.seq hostOps0_1, StableHlo.seq hostOps0_2,
          Prog.lift (.customCall (Pipeline.entry 0) ()), Prog.lift (.customCall (Pipeline.entry 1) ()),
          StableHlo.seq hostOps2] from rfl]
      dsimp (config := { failIfUnchanged := false }) only
      exact .rfl)
    (fun c => by simp only [segs, Seg.pipes_host, Seg.pipes_region, Seg.pipes_nil]; decide) (O₀ := 0)
    (hL := fun g hg => if_neg hg) (G := fun _ => BI.emp)
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ E c))
    (Tₙ := fun c => StableHlo.held (c : Thread nD τ) (Pipeline.ucRefs τ sig) (V6 m (outs m) c))
    (hch := fun c => ⟨.rfl, .rfl, .rfl, R0_pre m c, (R0_post m c).trans (R1_pre m c), R1_post m c, .rfl⟩)
    (hinit := by
      refine Pipeline.initEach L lv fun c => ?_
      rw [show unscopedBufs c (fun b => m ((c.tc : Thread nD τ).loc b)) = StableHlo.held (c.tc : Thread nD τ) (Pipeline.ucRefs τ sig) (V0 m c)
          from Pipeline.unscopedBufs_held (Ix := Unit) (Name := ℕ) (U := UR sig nD τ) (Lvl := ℕ) c (V0 m c)]
      iintro ⟨⟨Hh, -, HO, -⟩, -⟩
      imodintro
      isplitl [Hh]; · iexact Hh
      iexists _; iexact HO)
    (QY := fun c s => s.mem ((c : Thread nD τ).loc main_v11) = result m c ∧ s.mem ((c : Thread nD τ).loc main_arg0) = m ((c : Thread nD τ).loc main_arg0) ∧ s.mem ((c : Thread nD τ).loc main_arg1) = m ((c : Thread nD τ).loc main_arg1) ∧ s.mem ((c : Thread nD τ).loc main_arg2) = m ((c : Thread nD τ).loc main_arg2) ∧ s.mem ((c : Thread nD τ).loc main_arg3) = m ((c : Thread nD τ).loc main_arg3) ∧ s.mem ((c : Thread nD τ).loc main_arg4) = m ((c : Thread nD τ).loc main_arg4) ∧ s.mem ((c : Thread nD τ).loc main_arg5) = m ((c : Thread nD τ).loc main_arg5) ∧ s.mem ((c : Thread nD τ).loc main_arg6) = m ((c : Thread nD τ).loc main_arg6) ∧ s.mem ((c : Thread nD τ).loc main_arg7) = m ((c : Thread nD τ).loc main_arg7) ∧ s.mem ((c : Thread nD τ).loc main_arg8) = m ((c : Thread nD τ).loc main_arg8))
    (hfin := fun c s' => ?_) (hQ := fun _ h hz => ⟨h, funext fun g => hz g (.inr (regions_no_unscoped g.2))⟩)
  unfold StableHlo.held
  iintro ⟨Hh, HSI⟩
  ihave Hr := (pointsTo_read_all (Pipeline.ucRefs τ sig) (fun b => ((c : Thread nD τ).1, b)) (V6 m (outs m) c) s') $$ [Hh HSI]
  · isplitl [Hh] <;> iassumption
  icases Hr with ⟨%h, HSI⟩
  imodintro
  isplitr
  · ipureintro
    exact ⟨h (Proc.devRef .tc main_v11) (Finset.mem_filter.mpr ⟨StableHlo.devRef_mem_tcRefs main_v11, by decide⟩),
        (h (Proc.devRef .tc main_arg0) (Finset.mem_filter.mpr ⟨StableHlo.devRef_mem_tcRefs main_arg0, by decide⟩)).trans (V6_main_arg0 m (outs m) c),
        (h (Proc.devRef .tc main_arg1) (Finset.mem_filter.mpr ⟨StableHlo.devRef_mem_tcRefs main_arg1, by decide⟩)).trans (V6_main_arg1 m (outs m) c),
        (h (Proc.devRef .tc main_arg2) (Finset.mem_filter.mpr ⟨StableHlo.devRef_mem_tcRefs main_arg2, by decide⟩)).trans (V6_main_arg2 m (outs m) c),
        (h (Proc.devRef .tc main_arg3) (Finset.mem_filter.mpr ⟨StableHlo.devRef_mem_tcRefs main_arg3, by decide⟩)).trans (V6_main_arg3 m (outs m) c),
        (h (Proc.devRef .tc main_arg4) (Finset.mem_filter.mpr ⟨StableHlo.devRef_mem_tcRefs main_arg4, by decide⟩)).trans (V6_main_arg4 m (outs m) c),
        (h (Proc.devRef .tc main_arg5) (Finset.mem_filter.mpr ⟨StableHlo.devRef_mem_tcRefs main_arg5, by decide⟩)).trans (V6_main_arg5 m (outs m) c),
        (h (Proc.devRef .tc main_arg6) (Finset.mem_filter.mpr ⟨StableHlo.devRef_mem_tcRefs main_arg6, by decide⟩)).trans (V6_main_arg6 m (outs m) c),
        (h (Proc.devRef .tc main_arg7) (Finset.mem_filter.mpr ⟨StableHlo.devRef_mem_tcRefs main_arg7, by decide⟩)).trans (V6_main_arg7 m (outs m) c),
        (h (Proc.devRef .tc main_arg8) (Finset.mem_filter.mpr ⟨StableHlo.devRef_mem_tcRefs main_arg8, by decide⟩)).trans (V6_main_arg8 m (outs m) c)⟩
  · iexact HSI

end Cert.KernelIdeal.Hand

end
-- ==== Proof.Twin.lean ====
module

public import proofs.«01_k».proof.Defs
public import proofs.«01_k».proof.Proof.Run
public import proofs.«01_k».proof.Proof.Gen.Kernel

@[expose] public section

set_option maxRecDepth 16384
set_option maxHeartbeats 1000000

noncomputable section

namespace Cert.Kernel.Hand

open Idealize.ShloMosaic Idealize.SL.Sem

variable {F : FTy → Type} [FloatOps F]

/-- The kernel's bodies, as printed and idealized, are one text, -/
theorem bodies_eq : Cert.Kernel.defs₀ (F := F) = Cert.KernelIdeal.defs₀ (F := F) := by
  funext p l a
  cases p with
  | tc =>
    obtain ⟨l, hl⟩ := l
    match l, hl with
    | 0, _ => rfl
    | 1, _ => rfl
  | _ => rfl

/-- and so are its pipelines, -/
theorem pipelines_eq : Cert.Kernel.pcfgs (F := F) = Cert.KernelIdeal.pcfgs (F := F) := by
  funext p
  obtain ⟨l, hl⟩ := p
  match l, hl with
  | 0, _ => rfl
  | 1, _ => rfl

/-- hence its whole table of labels. -/
theorem table_eq : Cert.Kernel.defs (F := F) = Cert.KernelIdeal.defs (F := F) := by
  have h : Pipeline.defs (Cert.KernelIdeal.pcfgs (F := F)) (Cert.Kernel.defs₀ (F := F)) = Pipeline.defs (Cert.KernelIdeal.pcfgs (F := F)) (Cert.KernelIdeal.defs₀ (F := F)) :=
    congrArg (Pipeline.defs (Cert.KernelIdeal.pcfgs (F := F))) bodies_eq
  exact h

/-- The kernel's text and its idealization's are one text, so that the run of the one is the run of the other: read at
    any instance, the kernel ends with its arguments as launched and every semaphore at zero. -/
theorem frame (m : (ℓ : Loc Cert.Kernel.nD Cert.Kernel.τ Cert.Kernel.sig) → Buf (Elt F) ℓ) (ρ : Dev Cert.Kernel.nD → PrngReg) :
    θ_run (Cert.Kernel.defs (F := F)) (onTc (τ := Cert.Kernel.τ) (Cert.Kernel.main (F := F))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0) := by
  have h := Cert.KernelIdeal.Hand.run (F := F) m ρ
  have h' := (θ_run (Cert.KernelIdeal.defs (F := F)) (onTc (τ := Cert.KernelIdeal.τ) (Cert.KernelIdeal.main (F := F))) ⟨m, fun _ => 0, ρ⟩).mono (fun r h => And.intro (fun c => (h.1 c).2) h.2) h
  exact (congrArg (fun d => θ_run d (onTc (τ := Cert.KernelIdeal.τ) (Cert.KernelIdeal.main (F := F))) ⟨m, fun _ => 0, ρ⟩ _) table_eq).mpr h'

end Cert.Kernel.Hand
end
-- ==== Proof.Ref.lean ====
module

public import proofs.«01_k».proof.Proof.Gen.ReferenceIdeal.Run
public import proofs.«01_k».proof.Proof.Gen.ReferenceIdeal.Read

@[expose] public section
end
-- ==== Proof.Rings.lean ====
/- The rings of width four about the image's middle, and how many pixels lie in each. -/
module

public import Mathlib.Data.Nat.Sqrt
public import Mathlib.Algebra.BigOperators.Ring.Finset
public import Mathlib.Algebra.Order.BigOperators.Group.Finset
public import Mathlib.Data.Nat.ModEq
public import Mathlib.Data.Nat.Bitwise
public import Mathlib.Algebra.BigOperators.Intervals
public import Mathlib.Tactic.Linarith
public import Mathlib.Tactic.Ring

@[expose] public section

namespace Cert.Rings

/-- How far a row or column number is from the middle one, -/
def off (n : ℕ) : ℕ := (n - 256) + (256 - n)
/-- the squared distance of a pixel from the middle one, -/
def rad2 (i j : ℕ) : ℕ := off i * off i + off j * off j
/-- the ring of a point with a given squared distance: a quarter of the distance, rounded down, -/
def ringOf (n : ℕ) : ℕ := Nat.sqrt n / 4
/-- and the pixel's ring. -/
def ring (i j : ℕ) : ℕ := ringOf (rad2 i j)

/-- Ring `k` is where the squared distance lies between the squares of `4k` and `4(k + 1)`. -/
theorem ringOf_eq_iff (n k : ℕ) : ringOf n = k ↔ 16 * (k * k) ≤ n ∧ n < 16 * ((k + 1) * (k + 1)) := by
  unfold ringOf
  rw [Nat.div_eq_iff (by norm_num)]
  have h1 : 4 * k ≤ Nat.sqrt n ↔ (4 * k) * (4 * k) ≤ n := Nat.le_sqrt
  have h2 : Nat.sqrt n < 4 * (k + 1) ↔ n < (4 * (k + 1)) * (4 * (k + 1)) := Nat.sqrt_lt
  have e1 : (4 * k) * (4 * k) = 16 * (k * k) := by ring
  have e2 : (4 * (k + 1)) * (4 * (k + 1)) = 16 * ((k + 1) * (k + 1)) := by ring
  rw [e1] at h1; rw [e2] at h2
  rw [← h1, ← h2]
  omega

theorem off_le {n : ℕ} (h : n < 512) : off n ≤ 256 := by unfold off; omega

/-- The ring of a pixel is one of ninety-one. -/
theorem ring_lt {i j : ℕ} (hi : i < 512) (hj : j < 512) : ring i j < 91 := by
  have h1 := off_le hi
  have h2 := off_le hj
  have h : rad2 i j < 364 * 364 := by unfold rad2; nlinarith
  have := Nat.sqrt_lt.mpr h
  unfold ring ringOf
  omega

/-! ## Counting

How many pixels lie at a squared distance of at least a bound is read off one large number: it holds the squared
distances of all pixels as its digits, so that one subtraction compares them all with the bound. -/

/-- The base of the digits. -/
def base : ℕ := 2 ^ 19

/-- The number whose digits to a base are `2 ^ l` values of `f` from `i` on, put together by halves. -/
def pack (C : ℕ) (f : ℕ → ℕ) : ℕ → ℕ → ℕ
  | 0, i => f i
  | l + 1, i => pack C f l i + C ^ 2 ^ l * pack C f l (i + 2 ^ l)

theorem pack_eq (C : ℕ) (f : ℕ → ℕ) : ∀ l i, pack C f l i = ∑ t ∈ Finset.range (2 ^ l), f (i + t) * C ^ t
  | 0, i => by simp [pack]
  | l + 1, i => by
    rw [pack, pack_eq C f l i, pack_eq C f l (i + 2 ^ l), pow_succ, mul_two, Finset.sum_range_add, Finset.mul_sum]
    refine congrArg _ (Finset.sum_congr rfl fun t _ => ?_)
    rw [add_assoc, pow_add]; ring

/-- Rows of digits side by side are one row of digits. -/
theorem sum_flat (B n : ℕ) (hn : 0 < n) (f : ℕ → ℕ → ℕ) : ∀ m,
    ∑ i ∈ Finset.range m, (∑ j ∈ Finset.range n, f i j * B ^ j) * (B ^ n) ^ i = ∑ t ∈ Finset.range (m * n), f (t / n) (t % n) * B ^ t
  | 0 => by simp
  | m + 1 => by
    rw [Finset.sum_range_succ, sum_flat B n hn f m, Nat.succ_mul, Finset.sum_range_add, Finset.sum_mul]
    refine congrArg _ (Finset.sum_congr rfl fun t ht => ?_)
    have ht := Finset.mem_range.mp ht
    rw [Nat.mul_comm m n, Nat.mul_add_div hn, Nat.div_eq_of_lt ht, Nat.mul_add_mod, Nat.mod_eq_of_lt ht, pow_add, pow_mul]
    simp only [Nat.add_zero]; ring

/-- A mask acts on each digit. -/
theorem sum_land (n : ℕ) : ∀ x : ℕ → ℕ, (∀ t, x t < base) →
    (∑ t ∈ Finset.range n, x t * base ^ t) &&& (∑ t ∈ Finset.range n, 2 ^ 18 * base ^ t) = ∑ t ∈ Finset.range n, (x t &&& 2 ^ 18) * base ^ t := by
  have shift : ∀ (m : ℕ) (y : ℕ → ℕ), ∑ t ∈ Finset.range (m + 1), y t * base ^ t
      = 2 ^ 19 * ∑ t ∈ Finset.range m, y (t + 1) * base ^ t + y 0 := fun m y => by
    rw [Finset.sum_range_succ', Finset.mul_sum, pow_zero, mul_one]
    refine congrArg (· + y 0) (Finset.sum_congr rfl fun t _ => ?_)
    rw [pow_succ]; unfold base; ring
  induction n with
  | zero => intro x _; simp
  | succ n ih =>
    intro x hx
    rw [shift n x, shift n fun _ => 2 ^ 18, shift n fun t => x t &&& 2 ^ 18, ← ih _ fun t => hx (t + 1)]
    refine Nat.eq_of_testBit_eq fun i => ?_
    rw [Nat.testBit_and, Nat.testBit_two_pow_mul_add _ (hx 0), Nat.testBit_two_pow_mul_add _ (by norm_num : 2 ^ 18 < 2 ^ 19),
      Nat.testBit_two_pow_mul_add _ (lt_of_le_of_lt Nat.and_le_left (hx 0))]
    split <;> simp [Nat.testBit_and]

theorem land_top {x : ℕ} (h : x < base) : x &&& 2 ^ 18 = (if 2 ^ 18 ≤ x then 1 else 0) * 2 ^ 18 := by
  unfold base at h
  have e : x &&& 2 ^ 18 = (x.testBit 18).toNat * 2 ^ 18 := Nat.and_two_pow x 18
  rw [e, Nat.testBit_eq_decide_div_mod_eq]
  congr 1
  by_cases h' : 2 ^ 18 ≤ x
  · rw [if_pos h', decide_eq_true (by omega)]; rfl
  · rw [if_neg h', decide_eq_false (by omega)]; rfl

/-- The digit sum, up to multiples of the base less one. -/
theorem sum_mod (n : ℕ) (y : ℕ → ℕ) : (∑ t ∈ Finset.range n, y t * base ^ t) % (base - 1) = (∑ t ∈ Finset.range n, y t) % (base - 1) := by
  have h1 : base ≡ 1 [MOD base - 1] := (Nat.modEq_iff_dvd' (by norm_num [base])).mpr dvd_rfl |>.symm
  induction n with
  | zero => rfl
  | succ n ih =>
    rw [Finset.sum_range_succ, Finset.sum_range_succ]
    refine Nat.ModEq.add ih ?_
    simpa using (h1.pow n).mul_left (y n)

/-- A bound compared with all digits at once. -/
theorem read_off (n T : ℕ) (d : ℕ → ℕ) (hd : ∀ t < n, d t ≤ 2 ^ 17) (hT : T ≤ 2 ^ 18) (hn : n ≤ 2 ^ 18) :
    ((∑ t ∈ Finset.range n, d t * base ^ t + (2 ^ 18 - T) * ∑ t ∈ Finset.range n, base ^ t)
      &&& (2 ^ 18 * ∑ t ∈ Finset.range n, base ^ t)) / 2 ^ 18 % (base - 1) = ∑ t ∈ Finset.range n, if T ≤ d t then 1 else 0 := by
  let x : ℕ → ℕ := fun t => min (d t) (2 ^ 17) + (2 ^ 18 - T)
  have hxb : ∀ t, x t < base := fun t => by simp only [x, base]; omega
  have hs : ∑ t ∈ Finset.range n, d t * base ^ t + (2 ^ 18 - T) * ∑ t ∈ Finset.range n, base ^ t = ∑ t ∈ Finset.range n, x t * base ^ t := by
    rw [Finset.mul_sum, ← Finset.sum_add_distrib]
    refine Finset.sum_congr rfl fun t ht => ?_
    simp only [x]
    rw [min_eq_left (hd t (Finset.mem_range.mp ht)), add_mul]
  have hl : ∑ t ∈ Finset.range n, (x t &&& 2 ^ 18) * base ^ t
      = (∑ t ∈ Finset.range n, (if T ≤ d t then 1 else 0) * base ^ t) * 2 ^ 18 := by
    rw [Finset.sum_mul]
    refine Finset.sum_congr rfl fun t ht => ?_
    rw [land_top (hxb t), mul_assoc, mul_comm (2 ^ 18), ← mul_assoc]
    refine congrArg (fun n => n * base ^ t * 2 ^ 18) (if_congr ?_ rfl rfl)
    simp only [x]
    have := hd t (Finset.mem_range.mp ht)
    omega
  rw [hs, Finset.mul_sum, sum_land _ _ hxb, hl, Nat.mul_div_cancel _ (by norm_num), sum_mod]
  refine Nat.mod_eq_of_lt (lt_of_le_of_lt (Finset.sum_le_card_nsmul _ _ 1 fun t _ => by split <;> omega) ?_)
  rw [Finset.card_range, nsmul_one, Nat.cast_id]
  exact lt_of_le_of_lt hn (by norm_num [base])

/-- The squared distances of all pixels of a square, as digits, -/
def dists (l : ℕ) : ℕ := pack (base ^ 2 ^ l) (fun i => off i * off i * pack base (fun _ => 1) l 0 + pack base (fun j => off j * off j) l 0) l 0
/-- a one for every pixel, -/
def ones (l : ℕ) : ℕ := pack (base ^ 2 ^ l) (fun _ => pack base (fun _ => 1) l 0) l 0

theorem dists_eq (l : ℕ) : dists l = ∑ t ∈ Finset.range (2 ^ l * 2 ^ l), rad2 (t / 2 ^ l) (t % 2 ^ l) * base ^ t := by
  rw [← sum_flat base (2 ^ l) (by positivity) rad2, dists, pack_eq, pack_eq, pack_eq]
  refine Finset.sum_congr rfl fun i _ => congrArg (· * (base ^ 2 ^ l) ^ i) ?_
  rw [Finset.mul_sum, ← Finset.sum_add_distrib]
  exact Finset.sum_congr rfl fun j _ => by simp only [rad2, Nat.zero_add]; ring

theorem ones_eq (l : ℕ) : ones l = ∑ t ∈ Finset.range (2 ^ l * 2 ^ l), base ^ t := by
  have := sum_flat base (2 ^ l) (by positivity) (fun _ _ => 1) (2 ^ l)
  simp only [one_mul] at this
  rw [← this, ones, pack_eq, pack_eq]; simp only [one_mul]

/-- and how many pixels of the image lie at a squared distance of `16k²` at least, read off them. -/
def beyond (k : ℕ) : ℕ := ((dists 9 + (2 ^ 18 - 16 * (k * k)) * ones 9) &&& (2 ^ 18 * ones 9)) / 2 ^ 18 % (base - 1)

theorem beyond_eq {k : ℕ} (hk : k < 92) :
    beyond k = ∑ i ∈ Finset.range 512, ∑ j ∈ Finset.range 512, if 16 * (k * k) ≤ rad2 i j then 1 else 0 := by
  have flat1 : ∀ (f : ℕ → ℕ → ℕ) (m : ℕ) (hm : 0 < m), ∑ i ∈ Finset.range m, ∑ j ∈ Finset.range m, f i j = ∑ t ∈ Finset.range (m * m), f (t / m) (t % m) := fun f m hm => by
    simpa only [one_pow, mul_one] using sum_flat 1 m hm f m
  have hkk : k * k ≤ 91 * 91 := Nat.mul_le_mul (by omega) (by omega)
  have e : (512 : ℕ) = 2 ^ 9 := by norm_num
  unfold beyond
  rw [e, flat1 _ _ (by positivity), dists_eq, ones_eq]
  refine read_off _ _ _ (fun t ht => ?_) (by omega) (by norm_num)
  rw [← e] at ht ⊢
  have h1 := off_le (show t / 512 < 512 by omega)
  have h2 := off_le (show t % 512 < 512 by omega)
  have := Nat.mul_le_mul h1 h1
  have := Nat.mul_le_mul h2 h2
  unfold rad2; omega

/-- The number of pixels in ring `k`. -/
def count (k : ℕ) : ℕ := ∑ i ∈ Finset.range 512, ∑ j ∈ Finset.range 512, if ring i j = k then 1 else 0

theorem count_add {k : ℕ} (hk : k < 91) : count k + beyond (k + 1) = beyond k := by
  rw [beyond_eq (by omega), beyond_eq (by omega), count, ← Finset.sum_add_distrib]
  refine Finset.sum_congr rfl fun i _ => ?_
  rw [← Finset.sum_add_distrib]
  refine Finset.sum_congr rfl fun j _ => ?_
  have h := ringOf_eq_iff (rad2 i j) k
  have hm : k * k ≤ (k + 1) * (k + 1) := Nat.mul_le_mul (by omega) (by omega)
  change (if ringOf (rad2 i j) = k then 1 else 0) + _ = _
  by_cases h1 : 16 * (k * k) ≤ rad2 i j <;> by_cases h2 : 16 * ((k + 1) * (k + 1)) ≤ rad2 i j <;>
    simp only [h, h1, h2, if_true, if_false, true_and, false_and, not_le.mp, not_true, not_false_eq_true, Nat.not_le] <;> first | omega | simp_all

/-- How many pixels each ring has. -/
def counts : List ℕ := [45, 148, 244, 356, 452, 544, 660, 756, 844, 964, 1060, 1136, 1276, 1356, 1436, 1572, 1644, 1744, 1884,
  1948, 2060, 2180, 2252, 2352, 2484, 2540, 2684, 2756, 2876, 2960, 3084, 3132, 3260, 3388, 3440, 3580, 3668, 3764, 3884,
  3956, 4080, 4180, 4276, 4364, 4484, 4596, 4656, 4772, 4868, 4964, 5100, 5156, 5288, 5348, 5500, 5580, 5668, 5788, 5880,
  5988, 6092, 6204, 6244, 6412, 5526, 4800, 4344, 3996, 3708, 3392, 3192, 2984, 2712, 2588, 2364, 2164, 2036, 1848, 1672,
  1548, 1384, 1204, 1100, 940, 788, 676, 524, 376, 276, 132, 13]

/-- The counts are the table's: with those further out they make up those not further in. -/
theorem counts_beyond : ∀ k < 91, counts.getD k 0 + beyond (k + 1) = beyond k := by decide +kernel

theorem count_eq {k : ℕ} (h : k < 91) : count k = counts.getD k 0 := by
  have := count_add h
  have := counts_beyond k h
  omega

end Cert.Rings
-- ==== Proof.Words.lean ====
/- The words a pixel's ring is computed in, and the extended reals made of them. -/
module

public import proofs.«01_k».proof.Proof.Rings
public import Idealize.ShloMosaic.Lib.Pointwise
public import Idealize.ShloMosaic.Lib.WordCmp
public import Idealize.ShloMosaic.PureOps.Ideal

@[expose] public section

namespace Cert.Rings

open Idealize.ShloMosaic

/-! ## Sums of reals -/

/-- A finite sum of reals, read in the extended reals. -/
theorem coe_sum {ι : Type*} (s : Finset ι) (f : ι → ℝ) : ((∑ i ∈ s, f i : ℝ) : EReal) = ∑ i ∈ s, (f i : EReal) := by
  induction s using Finset.cons_induction with
  | empty => simp
  | cons a s h ih => rw [Finset.sum_cons, Finset.sum_cons, EReal.coe_add, ih]

/-! ## Words -/

/-- The square of a row or column number's distance from the middle, as either program computes it. -/
theorem sq_word {n : ℕ} (h : n < 512) :
    IntOp.muli (IntOp.subi (BitVec.ofNat 32 n) 256#32) (IntOp.subi (BitVec.ofNat 32 n) 256#32) = BitVec.ofNat 32 (off n * off n) := by
  unfold IntOp.muli IntOp.subi off
  rcases Nat.lt_or_ge n 256 with h' | h'
  · have e : BitVec.ofNat 32 n - 256#32 = - BitVec.ofNat 32 (256 - n) := by
      apply BitVec.eq_of_toNat_eq
      simp only [BitVec.toNat_sub, BitVec.toNat_neg, BitVec.toNat_ofNat]; omega
    rw [e, BitVec.neg_mul_neg, Nat.sub_eq_zero_of_le h'.le, Nat.zero_add, BitVec.ofNat_mul]
  · have e : BitVec.ofNat 32 n - 256#32 = BitVec.ofNat 32 (n - 256) := by
      apply BitVec.eq_of_toNat_eq
      simp only [BitVec.toNat_sub, BitVec.toNat_ofNat]; omega
    rw [e, Nat.sub_eq_zero_of_le h', Nat.add_zero, BitVec.ofNat_mul]

theorem add_neg_word (n : ℕ) : IntOp.addi 4294967040#32 (BitVec.ofNat 32 n) = IntOp.subi (BitVec.ofNat 32 n) 256#32 := by
  unfold IntOp.addi IntOp.subi
  rw [BitVec.add_comm, BitVec.sub_eq_add_neg]; rfl

theorem rad2_le {i j : ℕ} (hi : i < 512) (hj : j < 512) : rad2 i j ≤ 2 ^ 17 := by
  have := Nat.mul_le_mul (off_le hi) (off_le hi)
  have := Nat.mul_le_mul (off_le hj) (off_le hj)
  unfold rad2; omega

/-- The squared distance of a pixel. -/
theorem rad_word {i j : ℕ} (hi : i < 512) (hj : j < 512) :
    IntOp.addi (IntOp.muli (IntOp.subi (BitVec.ofNat 32 i) 256#32) (IntOp.subi (BitVec.ofNat 32 i) 256#32))
      (IntOp.muli (IntOp.subi (BitVec.ofNat 32 j) 256#32) (IntOp.subi (BitVec.ofNat 32 j) 256#32)) = BitVec.ofNat 32 (rad2 i j) := by
  rw [sq_word hi, sq_word hj, WordCmp.addi_ofNat]; rfl

/-- The kernel's test that a pixel lies in ring `k`: two comparisons of whole numbers. -/
theorem ring_bit {i j k : ℕ} (hi : i < 512) (hj : j < 512) (hk : k < 96) :
    IntOp.andi
      (IntOp.cmpi .sge (BitVec.ofNat 32 (rad2 i j)) (IntOp.muli (IntOp.muli (BitVec.ofNat 32 k) (BitVec.ofNat 32 k)) 16#32))
      (IntOp.cmpi .slt (BitVec.ofNat 32 (rad2 i j))
        (IntOp.muli (IntOp.addi (IntOp.addi (IntOp.muli (BitVec.ofNat 32 k) (BitVec.ofNat 32 k)) (IntOp.muli 2#32 (BitVec.ofNat 32 k))) 1#32) 16#32))
      = BitVec.ofBool (decide (ring i j = k)) := by
  have hr := rad2_le hi hj
  have hkk : k * k ≤ 95 * 95 := Nat.mul_le_mul (by omega) (by omega)
  rw [WordCmp.muli_ofNat, WordCmp.muli_ofNat, WordCmp.muli_ofNat, WordCmp.addi_ofNat, WordCmp.addi_ofNat, WordCmp.muli_ofNat,
    WordCmp.cmpi_sge_ofNat (by omega) (by omega), WordCmp.cmpi_slt_ofNat (by omega) (by omega), WordCmp.andi_ofBool]
  congr 1
  rw [← Bool.decide_and]
  refine decide_eq_decide.mpr ?_
  unfold ring
  rw [ringOf_eq_iff]
  have e : (k + 1) * (k + 1) = k * k + 2 * k + 1 := by ring
  rw [e]
  constructor <;> rintro ⟨h1, h2⟩ <;> constructor <;> omega

/-- A bit as a number. -/
theorem bit_real (b : Bool) : (FloatOps.sitofp (F := Ideal) .f32 ((BitVec.ofBool b).setWidth 32) : EReal) = ((if b then 1 else 0 : ℝ) : EReal) := by
  show ((((BitVec.ofBool b).setWidth 32).toInt : ℝ) : EReal) = _
  cases b
  · rw [show ((BitVec.ofBool false).setWidth 32).toInt = 0 from by decide]; norm_num
  · rw [show ((BitVec.ofBool true).setWidth 32).toInt = 1 from by decide]; norm_num

theorem ofBits_four : (Ideal.ofBits .f32 0x40800000#32 : EReal) = ((4 : ℝ) : EReal) := by
  simp [Ideal.ofBits, Ideal.ieee]
  rw [← EReal.coe_mul]; congr 1; norm_num
theorem ofBits_half : (Ideal.ofBits .f32 0x3F000000#32 : EReal) = ((1 / 2 : ℝ) : EReal) := by
  simp [Ideal.ofBits, Ideal.ieee]
  rw [← EReal.coe_mul]; congr 1; norm_num

/-- The reference's ring: a quarter of the square root of the squared distance, rounded down. -/
theorem ring_word {n : ℕ} (h : n ≤ 2 ^ 17) :
    Ideal.fptosi 32 (Ideal.liftRound Int.floor (Ideal.div (Ideal.sqrt (((BitVec.ofNat 32 n).toInt : ℝ) : EReal)) (Ideal.ofBits .f32 0x40800000#32)))
      = BitVec.ofNat 32 (ringOf n) := by
  rw [WordCmp.toInt_ofNat_of_lt (by omega), ofBits_four, Ideal.div_coe (by norm_num)]
  obtain ⟨h1, h2⟩ := (ringOf_eq_iff n (ringOf n)).mp rfl
  have hs : Ideal.sqrt ((((n : ℤ) : ℝ)) : EReal) = ((Real.sqrt n : ℝ) : EReal) := by
    show (if (((n : ℤ) : ℝ)) < 0 then (⊥ : EReal) else _) = _
    rw [if_neg (by simp)]; rfl
  have h1' : (16 * (ringOf n * ringOf n) : ℝ) ≤ n := by exact_mod_cast h1
  have h2' : (n : ℝ) < 16 * ((ringOf n + 1) * (ringOf n + 1)) := by exact_mod_cast h2
  have hf : ⌊Real.sqrt n * (1 / 4)⌋ = (ringOf n : ℤ) := by
    rw [Int.floor_eq_iff]
    constructor
    · have : (4 * (ringOf n : ℝ)) ≤ Real.sqrt n := Real.le_sqrt_of_sq_le (by nlinarith)
      push_cast; linarith
    · have : Real.sqrt n < 4 * ((ringOf n : ℝ) + 1) := (Real.sqrt_lt' (by positivity)).mpr (by nlinarith)
      push_cast; linarith
  have hlt : ringOf n < 2 ^ 17 := by
    unfold ringOf
    have := Nat.sqrt_le_self n
    omega
  rw [hs, ← EReal.coe_mul, Ideal.liftRound_coe, hf, Ideal.fptosi, Ideal.toIntClamped_coe,
    if_pos (by positivity), Int.floor_intCast, min_eq_right (by norm_num; omega), max_eq_right (by norm_num)]
  exact BitVec.ofInt_natCast 32 _

end Cert.Rings
-- ==== Proof.Rows.lean ====
/-
Adding pixels' rows into a table at a row number per pixel, and reading a table's row per pixel, element by element.
-/
module

public import proofs.«01_k».proof.Proof.Words

@[expose] public section

set_option maxRecDepth 16384

noncomputable section

namespace Cert.Rows

open Idealize.ShloMosaic Finset

/-- An update lands where its start plus its window coordinate says, when that is a place of the operand. -/
theorem resultIdx_eq {s si su : Shape} (d : ScatterDims s si su) {w : ℕ} (y : su.Idx) (idx : IVec si w) (r : s.Idx)
    (h : ∀ a, d.start y idx a + d.window y a = ((r a).val : ℤ)) : d.resultIdx? y idx = some r := by
  have hp : ∀ a, 0 ≤ d.start y idx a + d.window y a ∧ d.start y idx a + d.window y a < s.size a := fun a => by
    rw [h a]; exact ⟨Int.natCast_nonneg _, by exact_mod_cast (r a).isLt⟩
  unfold ScatterDims.resultIdx?
  rw [dif_pos hp]
  congr 1
  funext a
  refine Fin.ext ?_
  show (d.start y idx a + d.window y a).toNat = _
  rw [h a, Int.toNat_natCast]

variable {N D R C : ℕ}

/-- The scatter of one number per pixel. -/
abbrev one (wf : ScatterDims.WF ⟨1, ![N]⟩ ⟨3, ![R, C, 1]⟩ ⟨2, ![R, C]⟩ [] [0] [0] 2) : ScatterDims ⟨1, ![N]⟩ ⟨3, ![R, C, 1]⟩ ⟨2, ![R, C]⟩ := ⟨[], [0], [0], 2, wf⟩
/-- The scatter of one row per pixel. -/
abbrev row (wf : ScatterDims.WF ⟨2, ![N, D]⟩ ⟨3, ![R, C, 1]⟩ ⟨3, ![R, C, D]⟩ [2] [0] [0] 2) : ScatterDims ⟨2, ![N, D]⟩ ⟨3, ![R, C, 1]⟩ ⟨3, ![R, C, D]⟩ := ⟨[2], [0], [0], 2, wf⟩

/-- A pixel's number goes to the place its index names. -/
theorem one_lands (wf) (idx : IVec ⟨3, ![R, C, 1]⟩ 32) (i : Fin R) (j : Fin C) (k : Fin N)
    (h : (idx (ix3 i j 0)).toInt = (k.val : ℤ)) : (one wf).resultIdx? (ix2 i j) idx = some (ix1 k) := by
  refine resultIdx_eq _ _ _ _ fun a => ?_
  match a with
  | ⟨0, _⟩ =>
    have hw : (one wf : ScatterDims ⟨1, ![N]⟩ ⟨3, ![R, C, 1]⟩ ⟨2, ![R, C]⟩).window (ix2 i j) 0 = 0 := by
      unfold ScatterDims.window; rw [dif_neg (by simp [Shape.kept])]
    have hs : (one wf : ScatterDims ⟨1, ![N]⟩ ⟨3, ![R, C, 1]⟩ ⟨2, ![R, C]⟩).start (ix2 i j) idx 0 = k.val := by
      unfold ScatterDims.start
      rw [dif_pos (by simp)]
      rw [← h]
      congr 2
      funext b
      refine Fin.ext ?_
      match b with
      | ⟨0, _⟩ => rfl
      | ⟨1, _⟩ => rfl
      | ⟨2, _⟩ => rfl
    show (one wf).start (ix2 i j) idx 0 + (one wf).window (ix2 i j) 0 = _
    rw [hw, hs]; rfl

/-- A pixel's row goes to the row its index names. -/
theorem row_lands (wf) (idx : IVec ⟨3, ![R, C, 1]⟩ 32) (i : Fin R) (j : Fin C) (g : Fin D) (k : Fin N)
    (h : (idx (ix3 i j 0)).toInt = (k.val : ℤ)) : (row wf).resultIdx? (ix3 i j g) idx = some (ix2 k g) := by
  refine resultIdx_eq _ _ _ _ fun a => ?_
  match a with
  | ⟨0, _⟩ =>
    have hw : (row wf : ScatterDims ⟨2, ![N, D]⟩ ⟨3, ![R, C, 1]⟩ ⟨3, ![R, C, D]⟩).window (ix3 i j g) 0 = 0 := by
      unfold ScatterDims.window; rw [dif_neg (by simp [Shape.kept])]
    have hs : (row wf : ScatterDims ⟨2, ![N, D]⟩ ⟨3, ![R, C, 1]⟩ ⟨3, ![R, C, D]⟩).start (ix3 i j g) idx 0 = k.val := by
      unfold ScatterDims.start
      rw [dif_pos (by simp)]
      rw [← h]
      congr 2
      funext b
      refine Fin.ext ?_
      match b with
      | ⟨0, _⟩ => rfl
      | ⟨1, _⟩ => rfl
      | ⟨2, _⟩ => rfl
    show (row wf).start (ix3 i j g) idx 0 + (row wf).window (ix3 i j g) 0 = _
    rw [hw, hs]; rfl
  | ⟨1, _⟩ =>
    have hs : (row wf : ScatterDims ⟨2, ![N, D]⟩ ⟨3, ![R, C, 1]⟩ ⟨3, ![R, C, D]⟩).start (ix3 i j g) idx 1 = 0 := by
      unfold ScatterDims.start
      rw [dif_neg (by simp)]
    have hw : (row wf : ScatterDims ⟨2, ![N, D]⟩ ⟨3, ![R, C, 1]⟩ ⟨3, ![R, C, D]⟩).window (ix3 i j g) 1 = g.val := by
      unfold ScatterDims.window
      rw [dif_pos (by simp [Shape.kept])]
      rfl
    show (row wf).start (ix3 i j g) idx 1 + (row wf).window (ix3 i j g) 1 = _
    rw [hw, hs]; exact Int.zero_add _

/-- Scattered numbers: each place collects the pixels that name it. -/
theorem one_apply (wf) (z : (⟨1, ![N]⟩ : Shape).Idx → EReal) (idx : IVec ⟨3, ![R, C, 1]⟩ 32) (u : (⟨2, ![R, C]⟩ : Shape).Idx → EReal)
    (ρ : Fin R → Fin C → Fin N) (h : ∀ i j, (idx (ix3 i j 0)).toInt = ((ρ i j).val : ℤ)) (k : Fin N) :
    Ideal.hostScatterAdd (one wf) z idx u (ix1 k) = z (ix1 k) + ∑ i, ∑ j, if (ρ i j).val = k.val then u (ix2 i j) else 0 := by
  unfold Ideal.hostScatterAdd
  rw [sum_filter, sum_idx2]
  congr 1
  refine sum_congr rfl fun i _ => sum_congr rfl fun j _ => ?_
  rw [one_lands wf idx i j (ρ i j) (h i j)]
  refine if_congr ?_ rfl rfl
  rw [Option.some_inj]
  exact ⟨fun e => congrArg (fun y : (⟨1, ![N]⟩ : Shape).Idx => (y 0).val) e, fun e => by rw [Fin.ext e]⟩

/-- Scattered rows: each row collects, entry by entry, the pixels that name it. -/
theorem row_apply (wf) (z : (⟨2, ![N, D]⟩ : Shape).Idx → EReal) (idx : IVec ⟨3, ![R, C, 1]⟩ 32) (u : (⟨3, ![R, C, D]⟩ : Shape).Idx → EReal)
    (ρ : Fin R → Fin C → Fin N) (h : ∀ i j, (idx (ix3 i j 0)).toInt = ((ρ i j).val : ℤ)) (k : Fin N) (f : Fin D) :
    Ideal.hostScatterAdd (row wf) z idx u (ix2 k f) = z (ix2 k f) + ∑ i, ∑ j, if (ρ i j).val = k.val then u (ix3 i j f) else 0 := by
  unfold Ideal.hostScatterAdd
  rw [sum_filter, sum_idx3]
  congr 1
  refine sum_congr rfl fun i _ => sum_congr rfl fun j _ => ?_
  rw [sum_eq_single f (fun g _ hg => ?_) (by simp)]
  · rw [row_lands wf idx i j f (ρ i j) (h i j)]
    refine if_congr ?_ rfl rfl
    rw [Option.some_inj]
    exact ⟨fun e => congrArg (fun y : (⟨2, ![N, D]⟩ : Shape).Idx => (y 0).val) e, fun e => by rw [Fin.ext e]⟩
  · rw [row_lands wf idx i j g (ρ i j) (h i j)]
    refine if_neg fun e => hg ?_
    rw [Option.some_inj] at e
    exact congrFun e (1 : Fin 2)

/-- Reading one row per pixel. -/
theorem gather_row (wf) (x : (⟨2, ![N, D]⟩ : Shape).Idx → EReal) (idx : IVec ⟨3, ![R, C, 1]⟩ 32) (i : Fin R) (j : Fin C) (f : Fin D) (k : Fin N)
    (h : (idx (ix3 i j 0)).toInt = (k.val : ℤ)) :
    Host.gather (⟨[2], [0], [], [], [0], 2, ![1, D], wf⟩ : GatherDims ⟨2, ![N, D]⟩ ⟨3, ![R, C, 1]⟩ ⟨3, ![R, C, D]⟩) x idx (ix3 i j f) = x (ix2 k f) := by
  set d : GatherDims ⟨2, ![N, D]⟩ ⟨3, ![R, C, 1]⟩ ⟨3, ![R, C, D]⟩ := ⟨[2], [0], [], [], [0], 2, ![1, D], wf⟩ with hd
  unfold Host.gather
  congr 1
  funext a
  refine Fin.ext ?_
  show d.start (ix3 i j f) idx a + d.batchCoord (ix3 i j f) a + d.offCoord (ix3 i j f) a = _
  rw [GatherDims.batchCoord_eq_zero _ _ _ (by simp [hd])]
  match a with
  | ⟨0, _⟩ =>
    rw [GatherDims.offCoord_eq_zero _ _ _ (by simp [hd, Shape.kept])]
    unfold GatherDims.start
    rw [dif_pos (by simp [hd])]
    have hsi : d.siIdx (ix3 i j f) ⟨0, by simp [hd]⟩ = ix3 i j 0 := by
      funext b
      refine Fin.ext ?_
      match b with
      | ⟨0, _⟩ => rfl
      | ⟨1, _⟩ => rfl
      | ⟨2, _⟩ => rfl
    show min (idx (d.siIdx (ix3 i j f) ⟨0, by simp [hd]⟩)).toInt.toNat (N - 1) + 0 + 0 = k.val
    rw [hsi, h, Int.toNat_natCast]
    have := k.isLt
    omega
  | ⟨1, _⟩ =>
    have hs : d.start (ix3 i j f) idx 1 = 0 := by
      unfold GatherDims.start
      rw [dif_neg (by simp [hd])]
    have ho : d.offCoord (ix3 i j f) 1 = f.val := by
      unfold GatherDims.offCoord
      rw [dif_pos (by simp [hd, Shape.kept])]
      rfl
    show d.start (ix3 i j f) idx 1 + 0 + d.offCoord (ix3 i j f) 1 = _
    rw [hs, ho]; simp

end Cert.Rows
end
-- ==== Proof.Model.lean ====
/-
The mathematics of the two programs over the reals, and its equality: the kernel sums each ring's pixels first and
multiplies the sums by the weights, the reference multiplies every pixel and averages the products. The real part of the
second matrix may hold infinities, so what it enters is an extended real.
-/
module

public import proofs.«01_k».proof.Proof.Words
public import Mathlib.Data.Real.Basic
public import Mathlib.Algebra.BigOperators.Field
public import Mathlib.Algebra.BigOperators.Fin
public import Mathlib.Tactic.LinearCombination

@[expose] public section

noncomputable section

namespace Cert.Model

open Finset Cert.Rings

/-- One where the statement holds, zero elsewhere. -/
def ind (p : Prop) [Decidable p] : ℝ := if p then 1 else 0

/-- The sum over all pixels. -/
def overAll (g : ℕ → ℕ → ℝ) : ℝ := ∑ i ∈ range 512, ∑ j ∈ range 512, g i j

theorem overAll_congr {g h : ℕ → ℕ → ℝ} (e : ∀ i j, g i j = h i j) : overAll g = overAll h := by
  rw [show g = h from funext fun i => funext fun j => e i j]
theorem overAll_mul (g : ℕ → ℕ → ℝ) (a : ℝ) : overAll g * a = overAll fun i j => g i j * a := by
  unfold overAll; simp only [sum_mul]
theorem overAll_sub (g h : ℕ → ℕ → ℝ) : overAll g - overAll h = overAll fun i j => g i j - h i j := by
  unfold overAll; simp only [sum_sub_distrib]
theorem overAll_add (g h : ℕ → ℕ → ℝ) : overAll g + overAll h = overAll fun i j => g i j + h i j := by
  unfold overAll; simp only [sum_add_distrib]
theorem overAll_sum {n : ℕ} (g : Fin n → ℕ → ℕ → ℝ) : ∑ a, overAll (g a) = overAll fun i j => ∑ a, g a i j := by
  unfold overAll
  rw [sum_comm]
  exact sum_congr rfl fun i _ => sum_comm

/-- The data of the problem: the image's two parts and its mask at row, column (and channel), and the two complex matrices. -/
structure Inputs where
  re : ℕ → ℕ → Fin 16 → ℝ
  im : ℕ → ℕ → Fin 16 → ℝ
  mask : ℕ → ℕ → BitVec 32
  w1r : Fin 16 → Fin 16 → ℝ
  w1i : Fin 16 → Fin 16 → ℝ
  w2r : Fin 16 → Fin 16 → EReal
  w2i : Fin 16 → Fin 16 → ℝ

namespace Inputs

variable (x : Inputs)

/-! ## The kernel -/

/-- The pixels of ring `k` under mask zero. -/
def sel (k i j : ℕ) : ℝ := ind (ring i j = k) * ind (x.mask i j = 0#32)
/-- Their sums, channel by channel. -/
def sumRe (k : ℕ) (f : Fin 16) : ℝ := overAll fun i j => x.sel k i j * x.re i j f
def sumIm (k : ℕ) (f : Fin 16) : ℝ := overAll fun i j => x.sel k i j * x.im i j f
/-- The reciprocal of a ring's number of pixels; zero for the rows that are no ring. -/
def inv (k : ℕ) : ℝ := if k < 91 then 1 / (count k : ℝ) else 0
def mean0 (k : ℕ) (f : Fin 16) : ℝ := ((∑ g, x.sumRe k g * x.w1r g f) - ∑ g, x.sumIm k g * x.w1i g f) * inv k
def mean1 (k : ℕ) (f : Fin 16) : ℝ := ((∑ g, x.sumRe k g * x.w1i g f) + ∑ g, x.sumIm k g * x.w1r g f) * inv k
/-- The matrices that put the real parts in the even columns and the imaginary parts in the odd ones. -/
def ev (f : Fin 16) (c : Fin 32) : ℝ := ind (c.val = 2 * f.val)
def od (f : Fin 16) (c : Fin 32) : ℝ := ind (c.val = 2 * f.val + 1)
/-- The table of means the first pass leaves. -/
def table (k : ℕ) (c : Fin 32) : ℝ := (∑ f, x.mean0 k f * ev f c) + ∑ f, x.mean1 k f * od f c
/-- A pixel times a complex matrix. -/
def times (wr wi : Fin 16 → Fin 16 → ℝ) (i j : ℕ) (c : Fin 32) : ℝ :=
  (∑ a, x.re i j a * ((∑ b, wr a b * ev b c) + ∑ b, wi a b * od b c)) + ∑ a, x.im i j a * ((∑ b, wr a b * od b c) - ∑ b, wi a b * ev b c)
/-- The mean of the pixel's ring. -/
def picked (i j : ℕ) (c : Fin 32) : ℝ := ∑ k : Fin 96, ind (ring i j = k.val) * x.table k.val c
/-- A pixel times the second matrix. -/
def times2 (i j : ℕ) (c : Fin 32) : EReal :=
  (∑ a, (x.re i j a : EReal) * ((∑ b, x.w2r a b * (ev b c : EReal)) + ((∑ b, x.w2i a b * od b c : ℝ) : EReal)))
    + ∑ a, (x.im i j a : EReal) * ((∑ b, x.w2r a b * (od b c : EReal)) - ((∑ b, x.w2i a b * ev b c : ℝ) : EReal))
/-- What the second pass stores. -/
def kout (i j : ℕ) (c : Fin 32) : EReal :=
  ((ind (x.mask i j = 0#32) * (1 / 2 * (x.times x.w1r x.w1i i j c + x.picked i j c)) : ℝ) : EReal)
    + (ind (x.mask i j = 1#32) : EReal) * (x.times2 i j c - (x.picked i j c : EReal))

/-! ## The reference -/

def unc (i j : ℕ) : ℝ := ind (x.mask i j = 0#32)
def cor (i j : ℕ) : ℝ := ind (x.mask i j = 1#32)
/-- A masked pixel times a complex matrix: real and imaginary part. -/
def mulRe (u : ℕ → ℕ → ℝ) (wr wi : Fin 16 → Fin 16 → ℝ) (f : Fin 16) (i j : ℕ) : ℝ :=
  (∑ g, x.re i j g * u i j * wr g f) - ∑ g, x.im i j g * u i j * wi g f
def mulIm (u : ℕ → ℕ → ℝ) (wr wi : Fin 16 → Fin 16 → ℝ) (f : Fin 16) (i j : ℕ) : ℝ :=
  (∑ g, x.re i j g * u i j * wi g f) + ∑ g, x.im i j g * u i j * wr g f
/-- A ring's mean. -/
def mean (m : ℕ → ℕ → ℝ) (k : ℕ) : ℝ := overAll (fun i j => ind (ring i j = k) * m i j) / (count k : ℝ)
/-- A pixel under mask one times the second matrix. -/
def corRe (f : Fin 16) (i j : ℕ) : EReal :=
  (∑ g, ((x.re i j g * x.cor i j : ℝ) : EReal) * x.w2r g f) - ((∑ g, x.im i j g * x.cor i j * x.w2i g f : ℝ) : EReal)
def corIm (f : Fin 16) (i j : ℕ) : EReal :=
  ((∑ g, x.re i j g * x.cor i j * x.w2i g f : ℝ) : EReal) + ∑ g, ((x.im i j g * x.cor i j : ℝ) : EReal) * x.w2r g f
/-- The two parts of the reference's result. -/
def rre (i j : ℕ) (f : Fin 16) : EReal :=
  ((x.unc i j * (1 / 2 * (x.mulRe x.unc x.w1r x.w1i f i j + mean (x.mulRe x.unc x.w1r x.w1i f) (ring i j))) : ℝ) : EReal)
    + (x.cor i j : EReal) * (x.corRe f i j - (mean (x.mulRe x.unc x.w1r x.w1i f) (ring i j) : EReal))
def rim (i j : ℕ) (f : Fin 16) : EReal :=
  ((x.unc i j * (1 / 2 * (x.mulIm x.unc x.w1r x.w1i f i j + mean (x.mulIm x.unc x.w1r x.w1i f) (ring i j))) : ℝ) : EReal)
    + (x.cor i j : EReal) * (x.corIm f i j - (mean (x.mulIm x.unc x.w1r x.w1i f) (ring i j) : EReal))

/-! ## They agree -/

/-- The even and odd columns of channel `f`. -/
abbrev evc (f : Fin 16) : Fin 32 := ⟨2 * f.val, by omega⟩
abbrev odc (f : Fin 16) : Fin 32 := ⟨2 * f.val + 1, by omega⟩

theorem sum_ev_ev (a : Fin 16 → ℝ) (f : Fin 16) : ∑ g, a g * ev g (evc f) = a f := by
  rw [sum_eq_single f (fun g _ h => ?_) (by simp)]
  · simp [ev, ind]
  · simp only [ev, ind]; rw [if_neg (fun e => h (Fin.ext (by omega))), mul_zero]
theorem sum_od_od (a : Fin 16 → ℝ) (f : Fin 16) : ∑ g, a g * od g (odc f) = a f := by
  rw [sum_eq_single f (fun g _ h => ?_) (by simp)]
  · simp [od, ind]
  · simp only [od, ind]; rw [if_neg (fun e => h (Fin.ext (by omega))), mul_zero]
theorem sum_ev_od (a : Fin 16 → ℝ) (f : Fin 16) : ∑ g, a g * ev g (odc f) = 0 :=
  sum_eq_zero fun g _ => by simp only [ev, ind]; rw [if_neg (by omega), mul_zero]
theorem sum_od_ev (a : Fin 16 → ℝ) (f : Fin 16) : ∑ g, a g * od g (evc f) = 0 :=
  sum_eq_zero fun g _ => by simp only [od, ind]; rw [if_neg (by omega), mul_zero]

/-- Every pixel has one ring, so picking by the rings' tests reads the ring's row. -/
theorem picked_eq {i j : ℕ} (hi : i < 512) (hj : j < 512) (c : Fin 32) : x.picked i j c = x.table (ring i j) c := by
  have hr := ring_lt hi hj
  unfold picked
  rw [sum_eq_single ⟨ring i j, by omega⟩ (fun k _ h => ?_) (by simp)]
  · simp [ind]
  · rw [ind, if_neg (fun e => h (Fin.ext e.symm)), zero_mul]

theorem table_even (k : ℕ) (f : Fin 16) : x.table k (evc f) = x.mean0 k f := by
  unfold table; rw [sum_ev_ev, sum_od_ev, add_zero]
theorem table_odd (k : ℕ) (f : Fin 16) : x.table k (odc f) = x.mean1 k f := by
  unfold table; rw [sum_od_od, sum_ev_od, zero_add]

/-- Summing a ring and multiplying the sum is multiplying every pixel and averaging the products. -/
theorem mean0_eq {k : ℕ} (h : k < 91) (f : Fin 16) : x.mean0 k f = mean (x.mulRe x.unc x.w1r x.w1i f) k := by
  unfold mean0 mean sumRe sumIm inv
  rw [if_pos h, mul_one_div]
  congr 1
  simp only [overAll_mul, overAll_sum, overAll_sub]
  refine overAll_congr fun i j => ?_
  unfold mulRe unc sel
  rw [mul_sub, mul_sum, mul_sum]
  congr 1 <;> exact sum_congr rfl fun g _ => by ring
theorem mean1_eq {k : ℕ} (h : k < 91) (f : Fin 16) : x.mean1 k f = mean (x.mulIm x.unc x.w1r x.w1i f) k := by
  unfold mean1 mean sumRe sumIm inv
  rw [if_pos h, mul_one_div]
  congr 1
  simp only [overAll_mul, overAll_sum, overAll_add]
  refine overAll_congr fun i j => ?_
  unfold mulIm unc sel
  rw [mul_add, mul_sum, mul_sum]
  congr 1 <;> exact sum_congr rfl fun g _ => by ring

/-- Masking a pixel before the product or masking the product is the same. -/
theorem mask_re (u : ℕ → ℕ → ℝ) (wr wi : Fin 16 → Fin 16 → ℝ) (f : Fin 16) (i j : ℕ) (h : u i j * u i j = u i j) :
    u i j * x.times wr wi i j (evc f) = u i j * x.mulRe u wr wi f i j := by
  unfold times mulRe
  simp only [sum_ev_ev, sum_od_ev, add_zero, zero_sub]
  rw [mul_add, mul_sub, mul_sum, mul_sum, mul_sum, mul_sum, sub_eq_add_neg, ← sum_neg_distrib]
  congr 1
  · exact sum_congr rfl fun g _ => by rw [show u i j * (x.re i j g * u i j * wr g f) = u i j * u i j * (x.re i j g * wr g f) by ring, h]
  · exact sum_congr rfl fun g _ => by rw [show -(u i j * (x.im i j g * u i j * wi g f)) = -(u i j * u i j * (x.im i j g * wi g f)) by ring, h]; ring
theorem mask_im (u : ℕ → ℕ → ℝ) (wr wi : Fin 16 → Fin 16 → ℝ) (f : Fin 16) (i j : ℕ) (h : u i j * u i j = u i j) :
    u i j * x.times wr wi i j (odc f) = u i j * x.mulIm u wr wi f i j := by
  unfold times mulIm
  simp only [sum_od_od, sum_ev_od, zero_add, sub_zero]
  rw [mul_add, mul_add, mul_sum, mul_sum, mul_sum, mul_sum]
  congr 1
  · exact sum_congr rfl fun g _ => by rw [show u i j * (x.re i j g * u i j * wi g f) = u i j * u i j * (x.re i j g * wi g f) by ring, h]
  · exact sum_congr rfl fun g _ => by rw [show u i j * (x.im i j g * u i j * wr g f) = u i j * u i j * (x.im i j g * wr g f) by ring, h]

theorem ind_sq (p : Prop) [Decidable p] : ind p * ind p = ind p := by unfold ind; split <;> simp

/-- Putting extended reals in the even or odd columns. -/
theorem esum_same {e : Fin 16 → ℝ} (a : Fin 16 → EReal) (f : Fin 16) (h : e f = 1) (h' : ∀ g, g ≠ f → e g = 0) :
    ∑ g, a g * (e g : EReal) = a f := by
  rw [sum_eq_single f (fun g _ hg => by rw [h' g hg, EReal.coe_zero, mul_zero]) (by simp), h, EReal.coe_one, mul_one]
theorem esum_other {e : Fin 16 → ℝ} (a : Fin 16 → EReal) (h : ∀ g, e g = 0) : ∑ g, a g * (e g : EReal) = 0 :=
  sum_eq_zero fun g _ => by rw [h g, EReal.coe_zero, mul_zero]

theorem ev_same (f : Fin 16) : ev f (evc f) = 1 := if_pos rfl
theorem ev_ne (f g : Fin 16) (h : g ≠ f) : ev g (evc f) = 0 := if_neg fun e => h (Fin.ext (by simp only at e; omega))
theorem od_same (f : Fin 16) : od f (odc f) = 1 := if_pos rfl
theorem od_ne (f g : Fin 16) (h : g ≠ f) : od g (odc f) = 0 := if_neg fun e => h (Fin.ext (by simp only at e; omega))
theorem ev_odc (f g : Fin 16) : ev g (odc f) = 0 := if_neg (by simp only; omega)
theorem od_evc (f g : Fin 16) : od g (evc f) = 0 := if_neg (by simp only; omega)

/-- Under mask one the second products are the same, in the even columns -/
theorem times2_even {i j : ℕ} (h : x.cor i j = 1) (f : Fin 16) : x.times2 i j (evc f) = x.corRe f i j := by
  unfold times2 corRe
  simp only [esum_same _ f (ev_same f) (ev_ne f), esum_other _ (od_evc f), sum_od_ev, sum_ev_ev, EReal.coe_zero, add_zero, zero_sub, h, mul_one]
  rw [sub_eq_add_neg]
  congr 1
  simp only [← EReal.coe_neg, ← EReal.coe_mul, ← coe_sum, mul_neg, sum_neg_distrib]
/-- and in the odd ones. -/
theorem times2_odd {i j : ℕ} (h : x.cor i j = 1) (f : Fin 16) : x.times2 i j (odc f) = x.corIm f i j := by
  unfold times2 corIm
  simp only [esum_same _ f (od_same f) (od_ne f), esum_other _ (ev_odc f), sum_ev_od, sum_od_od, EReal.coe_zero, zero_add, sub_zero, h, mul_one]
  simp only [← EReal.coe_mul, ← coe_sum]

/-- The masked halves agree when the products under the mask do. -/
theorem cor_mul {i j : ℕ} {a b : EReal} (h : x.cor i j = 1 → a = b) : (x.cor i j : EReal) * a = (x.cor i j : EReal) * b := by
  by_cases e : x.mask i j = 1#32
  · rw [h (if_pos e)]
  · have : x.cor i j = 0 := if_neg e
    rw [this, EReal.coe_zero, zero_mul, zero_mul]

/-- The even columns are the reference's real part, -/
theorem kout_even {i j : ℕ} (hi : i < 512) (hj : j < 512) (f : Fin 16) : x.kout i j (evc f) = x.rre i j f := by
  have h1 := x.mask_re x.unc x.w1r x.w1i f i j (ind_sq _)
  unfold kout rre
  rw [x.picked_eq hi hj, table_even, mean0_eq x (ring_lt hi hj)]
  congr 1
  · congr 1
    unfold unc at *
    linear_combination (1 / 2) * h1
  · exact x.cor_mul fun h => by rw [x.times2_even h]
/-- and the odd ones its imaginary part. -/
theorem kout_odd {i j : ℕ} (hi : i < 512) (hj : j < 512) (f : Fin 16) : x.kout i j (odc f) = x.rim i j f := by
  have h1 := x.mask_im x.unc x.w1r x.w1i f i j (ind_sq _)
  unfold kout rim
  rw [x.picked_eq hi hj, table_odd, mean1_eq x (ring_lt hi hj)]
  congr 1
  · congr 1
    unfold unc at *
    linear_combination (1 / 2) * h1
  · exact x.cor_mul fun h => by rw [x.times2_odd h]

end Inputs

end Cert.Model
end
-- ==== Proof.Kval.lean ====
/- What the kernel's two passes compute at one entry, over the reals. -/
module

public import proofs.«01_k».proof.Proof.Run
public import proofs.«01_k».proof.Proof.Words
public import proofs.«01_k».proof.Proof.Model
public import Idealize.ShloMosaic.Lib.Pipeline.ValueKit

@[expose] public section

set_option maxRecDepth 16384

noncomputable section

namespace Cert.KernelIdeal.Hand

open Idealize.ShloMosaic Cert.KernelIdeal.Gen Cert.Rings Cert.Model
open Cert.Model.Inputs (inv ev od)

/-- The test for ring `k` at row `r` of the block of eight rows number `i`, column `l`, as a number. -/
theorem ring_num {i r l k : ℕ} (hi : i < 64) (hr : r < 8) (hl : l < 512) (hk : k < 96) :
    (FloatOps.sitofp (F := Ideal) .f32 (BitVec.setWidth 32 (IntOp.andi
      (IntOp.cmpi .sge
        (IntOp.addi
          (IntOp.muli (IntOp.subi (IntOp.addi (BitVec.ofNat 32 r) (Scalar.muli (BitVec.ofNat 32 i) 8#32)) 256#32)
            (IntOp.subi (IntOp.addi (BitVec.ofNat 32 r) (Scalar.muli (BitVec.ofNat 32 i) 8#32)) 256#32))
          (IntOp.muli (IntOp.subi (BitVec.ofNat 32 l) 256#32) (IntOp.subi (BitVec.ofNat 32 l) 256#32)))
        (IntOp.muli (IntOp.muli (BitVec.ofNat 32 k) (BitVec.ofNat 32 k)) 16#32))
      (IntOp.cmpi .slt
        (IntOp.addi
          (IntOp.muli (IntOp.subi (IntOp.addi (BitVec.ofNat 32 r) (Scalar.muli (BitVec.ofNat 32 i) 8#32)) 256#32)
            (IntOp.subi (IntOp.addi (BitVec.ofNat 32 r) (Scalar.muli (BitVec.ofNat 32 i) 8#32)) 256#32))
          (IntOp.muli (IntOp.subi (BitVec.ofNat 32 l) 256#32) (IntOp.subi (BitVec.ofNat 32 l) 256#32)))
        (IntOp.muli (IntOp.addi (IntOp.addi (IntOp.muli (BitVec.ofNat 32 k) (BitVec.ofNat 32 k)) (IntOp.muli 2#32 (BitVec.ofNat 32 k))) 1#32) 16#32)))) : EReal)
      = ((ind (ring (8 * i + r) l = k) : ℝ) : EReal) := by
  have e : IntOp.addi (BitVec.ofNat 32 r) (Scalar.muli (BitVec.ofNat 32 i) 8#32) = BitVec.ofNat 32 (8 * i + r) := by
    show IntOp.addi _ (IntOp.muli _ _) = _
    rw [WordCmp.muli_ofNat, WordCmp.addi_ofNat]; congr 1; omega
  rw [e, rad_word (by omega) hl, ring_bit (by omega) hl hk, bit_real]
  simp [ind]

/-- The test of the mask, as a number. -/
theorem mask_num (a b : BitVec 32) :
    (FloatOps.sitofp (F := Ideal) .f32 (BitVec.setWidth 32 (IntOp.cmpi .eq a b)) : EReal) = ((ind (a = b) : ℝ) : EReal) := by
  have e : IntOp.cmpi .eq a b = BitVec.ofBool (decide (a = b)) := rfl
  rw [e, bit_real]; simp [ind]

/-- The first pass's selector: ring `k` and mask zero. -/
theorem pay4_apply (i : grid0.Coords) (v3 : Vec Ideal S8x512x1 .i32) (q : Fin 4096) (k : Fin 96) :
    k0_pay4 (F := Ideal) i v3 (ix2 q k)
      = ((ind (ring (8 * (i 0).val + q.val / 512) (q.val % 512) = k.val)
          * ind (v3 (ix3 ⟨q.val / 512, by omega⟩ ⟨q.val % 512, by omega⟩ 0) = 0#32) : ℝ) : EReal) := by
  have hi : (i 0).val < 64 := (i 0).isLt
  pointwise [k0_pay4]
  rw [ring_num hi (by omega) (by omega) (by omega), mask_num, ← EReal.coe_mul]

/-- One point of the first pass, at a column of the real half: the block's masked pixels of the ring are added. -/
theorem step_left (i : grid0.Coords) (x0 x1 : Vec Ideal S8x512x16 .f32) (x2 : Vec Ideal S8x512x1 .i32) (s : Vec Ideal S96x32 .f32)
    (k : Fin 96) (f : Fin 16) :
    step0 i x0 x1 x2 s (ix2 k ⟨f.val, by omega⟩) = s (ix2 k ⟨f.val, by omega⟩)
      + ∑ q : Fin 4096, k0_pay4 (F := Ideal) i x2 (ix2 q k) * x0 (ix3 ⟨q.val / 512, by omega⟩ ⟨q.val % 512, by omega⟩ f) := by
  unfold step0
  pointwise [k0_pay1, k0_pay5]

/-- … and at a column of the imaginary half. -/
theorem step_right (i : grid0.Coords) (x0 x1 : Vec Ideal S8x512x16 .f32) (x2 : Vec Ideal S8x512x1 .i32) (s : Vec Ideal S96x32 .f32)
    (k : Fin 96) (f : Fin 16) :
    step0 i x0 x1 x2 s (ix2 k ⟨16 + f.val, by omega⟩) = s (ix2 k ⟨16 + f.val, by omega⟩)
      + ∑ q : Fin 4096, k0_pay4 (F := Ideal) i x2 (ix2 q k) * x1 (ix3 ⟨q.val / 512, by omega⟩ ⟨q.val % 512, by omega⟩ f) := by
  unfold step0
  pointwise [k0_pay1, k0_pay5]

/-! ## The first pass: its blocks, its sums, its table -/

variable (W : Dev nD → Valuation τ sig (Elt Ideal)) (c : Dev nD)

theorem coords0 : ∀ t : Fin cfg0.N, ((grid0.coords t) 0).val = t.val := (by decide +kernel : ∀ t : Fin grid0.N, ((grid0.coords t) 0).val = t.val)
theorem index0_0 : ∀ t : Fin cfg0.N, win0_0.index t = ![t.val, 0, 0] := (by decide +kernel : ∀ t : Fin grid0.N, _)
theorem index0_1 : ∀ t : Fin cfg0.N, win0_1.index t = ![t.val, 0, 0] := (by decide +kernel : ∀ t : Fin grid0.N, _)
theorem index0_2 : ∀ t : Fin cfg0.N, win0_2.index t = ![t.val, 0, 0] := (by decide +kernel : ∀ t : Fin grid0.N, _)

theorem row_lt (t : Fin cfg0.N) (r : Fin 8) : 8 * t.val + r.val < 512 := by
  have h := t.isLt; have : cfg0.N = 64 := N_0; omega

theorem blk0_0 (t : Fin cfg0.N) (r : Fin 8) (l : Fin 512) (f : Fin 16) :
    blk0 W c 0 t (ix3 r l f) = W c (Proc.devRef .tc main_arg0) (ix3 ⟨8 * t.val + r.val, row_lt t r⟩ l f) := by
  unfold blk0; blk_simp; refine congrArg _ ?_; blk_ext [index0_0]
theorem blk0_1 (t : Fin cfg0.N) (r : Fin 8) (l : Fin 512) (f : Fin 16) :
    blk0 W c 1 t (ix3 r l f) = W c (Proc.devRef .tc main_arg1) (ix3 ⟨8 * t.val + r.val, row_lt t r⟩ l f) := by
  unfold blk0; blk_simp; refine congrArg _ ?_; blk_ext [index0_1]
theorem blk0_2 (t : Fin cfg0.N) (r : Fin 8) (l : Fin 512) :
    blk0 W c 2 t (ix3 r l 0) = W c (Proc.devRef .tc main_v8) (ix3 ⟨8 * t.val + r.val, row_lt t r⟩ l 0) := by
  unfold blk0; blk_simp; refine congrArg _ ?_; blk_ext [index0_2]

/-- The arrays both passes read, and the reals they hold. -/
structure Reads (x : Inputs) : Prop where
  re : ∀ (i j : Fin 512) (f : Fin 16), W c (Proc.devRef .tc main_arg0) (ix3 i j f) = ((x.re i j f : ℝ) : EReal)
  im : ∀ (i j : Fin 512) (f : Fin 16), W c (Proc.devRef .tc main_arg1) (ix3 i j f) = ((x.im i j f : ℝ) : EReal)
  mask : ∀ i j : Fin 512, W c (Proc.devRef .tc main_v8) (ix3 i j 0) = x.mask i j
  w1r : ∀ a b : Fin 16, W c (Proc.devRef .tc main_arg5) (ix2 a b) = ((x.w1r a b : ℝ) : EReal)
  w1i : ∀ a b : Fin 16, W c (Proc.devRef .tc main_arg7) (ix2 a b) = ((x.w1i a b : ℝ) : EReal)
  ev : ∀ (a : Fin 16) (b : Fin 32), W c (Proc.devRef .tc main_cst) (ix2 a b) = ((ev a b : ℝ) : EReal)
  od : ∀ (a : Fin 16) (b : Fin 32), W c (Proc.devRef .tc main_cst_0) (ix2 a b) = ((od a b : ℝ) : EReal)

variable {W c} {x : Inputs}

/-- What a point's 4096 pixels add to a ring's sum. -/
theorem block_sum (t : Fin cfg0.N) (k : Fin 96) (hW : Reads W c x) (g : Fin 512 → Fin 512 → EReal) (r : ℕ → ℕ → ℝ)
    (hg : ∀ i j : Fin 512, g i j = ((r i j : ℝ) : EReal)) :
    (∑ q : Fin 4096, k0_pay4 (F := Ideal) (grid0.coords t) (blk0 W c 2 t) (ix2 q k)
        * g ⟨8 * t.val + q.val / 512, row_lt t ⟨q.val / 512, by omega⟩⟩ ⟨q.val % 512, by omega⟩)
      = ((∑ q ∈ Finset.range 4096, x.sel k (8 * t.val + q / 512) (q % 512) * r (8 * t.val + q / 512) (q % 512) : ℝ) : EReal) := by
  rw [← Fin.sum_univ_eq_sum_range (fun q => x.sel k (8 * t.val + q / 512) (q % 512) * r (8 * t.val + q / 512) (q % 512)), coe_sum]
  refine Finset.sum_congr rfl fun q _ => ?_
  rw [pay4_apply, blk0_2, hW.mask, hg, coords0, ← EReal.coe_mul]
  rfl

/-- The ring sums after point `n`, at a column of the real half, -/
theorem acc_left (hW : Reads W c x) (k : Fin 96) (f : Fin 16) : ∀ (n : ℕ) (h : n < cfg0.N), acc0 W c n h (ix2 k ⟨f.val, by omega⟩)
    = ((∑ t ∈ Finset.range (n + 1), ∑ q ∈ Finset.range 4096, x.sel k (8 * t + q / 512) (q % 512) * x.re (8 * t + q / 512) (q % 512) f : ℝ) : EReal)
  | 0, h => by
    show step0 _ _ _ _ _ _ = _
    have := block_sum ⟨0, h⟩ k hW (fun i j => W c (Proc.devRef .tc main_arg0) (ix3 i j f)) (fun i j => x.re i j f) fun i j => hW.re i j f
    rw [step_left]
    simp only [blk0_0]
    rw [this, Finset.sum_range_one]
    pointwise [k0_pay3]
  | n + 1, h => by
    show step0 _ _ _ _ (acc0 W c n _) _ = _
    have := block_sum ⟨n + 1, h⟩ k hW (fun i j => W c (Proc.devRef .tc main_arg0) (ix3 i j f)) (fun i j => x.re i j f) fun i j => hW.re i j f
    rw [step_left]
    simp only [blk0_0]
    rw [this, acc_left hW k f n _, ← EReal.coe_add, Finset.sum_range_succ _ (n + 1)]

/-- … and at a column of the imaginary half. -/
theorem acc_right (hW : Reads W c x) (k : Fin 96) (f : Fin 16) : ∀ (n : ℕ) (h : n < cfg0.N), acc0 W c n h (ix2 k ⟨16 + f.val, by omega⟩)
    = ((∑ t ∈ Finset.range (n + 1), ∑ q ∈ Finset.range 4096, x.sel k (8 * t + q / 512) (q % 512) * x.im (8 * t + q / 512) (q % 512) f : ℝ) : EReal)
  | 0, h => by
    show step0 _ _ _ _ _ _ = _
    have := block_sum ⟨0, h⟩ k hW (fun i j => W c (Proc.devRef .tc main_arg1) (ix3 i j f)) (fun i j => x.im i j f) fun i j => hW.im i j f
    rw [step_right]
    simp only [blk0_1]
    rw [this, Finset.sum_range_one]
    pointwise [k0_pay3]
  | n + 1, h => by
    show step0 _ _ _ _ (acc0 W c n _) _ = _
    have := block_sum ⟨n + 1, h⟩ k hW (fun i j => W c (Proc.devRef .tc main_arg1) (ix3 i j f)) (fun i j => x.im i j f) fun i j => hW.im i j f
    rw [step_right]
    simp only [blk0_1]
    rw [this, acc_right hW k f n _, ← EReal.coe_add, Finset.sum_range_succ _ (n + 1)]

/-- The blocks' rows are the image's rows, in order. -/
theorem sum_blocks (g : ℕ → ℕ → ℝ) :
    ∑ t ∈ Finset.range 64, ∑ q ∈ Finset.range 4096, g (8 * t + q / 512) (q % 512) = overAll g := by
  have e : ∀ t, ∑ q ∈ Finset.range 4096, g (8 * t + q / 512) (q % 512) = ∑ a ∈ Finset.range 8, ∑ b ∈ Finset.range 512, g (t * 8 + a) b := fun t => by
    rw [Nat.mul_comm 8 t]
    exact Finset.sum_range_mul_divmod 8 512 fun a b => g (t * 8 + a) b
  simp only [e]
  exact Finset.sum_range_range_mul_add 64 8 fun i => ∑ b ∈ Finset.range 512, g i b

/-- The grid's last point. -/
abbrev last0 : Fin cfg0.N := ⟨63, by decide⟩

theorem sums_left (hW : Reads W c x) (k : Fin 96) (f : Fin 16) :
    acc0 W c 63 last0.isLt (ix2 k ⟨f.val, by omega⟩) = ((x.sumRe k f : ℝ) : EReal) :=
  (acc_left hW k f 63 _).trans (congrArg _ (sum_blocks fun i j => x.sel k i j * x.re i j f))
theorem sums_right (hW : Reads W c x) (k : Fin 96) (f : Fin 16) :
    acc0 W c 63 last0.isLt (ix2 k ⟨16 + f.val, by omega⟩) = ((x.sumIm k f : ℝ) : EReal) :=
  (acc_right hW k f 63 _).trans (congrArg _ (sum_blocks fun i j => x.sel k i j * x.im i j f))

theorem index0_3 : ∀ t : Fin cfg0.N, win0_3.index t = ![0, 0] := (by decide +kernel : ∀ t : Fin grid0.N, _)
theorem index0_4 : ∀ t : Fin cfg0.N, win0_4.index t = ![0, 0] := (by decide +kernel : ∀ t : Fin grid0.N, _)
theorem index0_5 : ∀ t : Fin cfg0.N, win0_5.index t = ![0, 0] := (by decide +kernel : ∀ t : Fin grid0.N, _)
theorem index0_6 : ∀ t : Fin cfg0.N, win0_6.index t = ![0, 0] := (by decide +kernel : ∀ t : Fin grid0.N, _)
theorem index0_7 : ∀ t : Fin cfg0.N, win0_7.index t = ![0, 0] := (by decide +kernel : ∀ t : Fin grid0.N, _)

variable (W c) in
theorem blk0_3 (t : Fin cfg0.N) (k : Fin 96) : blk0 W c 3 t (ix2 k 0) = W c (Proc.devRef .tc main_v7) (ix2 k 0) := by
  unfold blk0; blk_simp; refine congrArg _ ?_; blk_ext [index0_3]
variable (W c) in
theorem blk0_4 (t : Fin cfg0.N) (a b : Fin 16) : blk0 W c 4 t (ix2 a b) = W c (Proc.devRef .tc main_arg5) (ix2 a b) := by
  unfold blk0; blk_simp; refine congrArg _ ?_; blk_ext [index0_4]
variable (W c) in
theorem blk0_5 (t : Fin cfg0.N) (a b : Fin 16) : blk0 W c 5 t (ix2 a b) = W c (Proc.devRef .tc main_arg7) (ix2 a b) := by
  unfold blk0; blk_simp; refine congrArg _ ?_; blk_ext [index0_5]
variable (W c) in
theorem blk0_6 (t : Fin cfg0.N) (a : Fin 16) (b : Fin 32) : blk0 W c 6 t (ix2 a b) = W c (Proc.devRef .tc main_cst) (ix2 a b) := by
  unfold blk0; blk_simp; refine congrArg _ ?_; blk_ext [index0_6]
variable (W c) in
theorem blk0_7 (t : Fin cfg0.N) (a : Fin 16) (b : Fin 32) : blk0 W c 7 t (ix2 a b) = W c (Proc.devRef .tc main_cst_0) (ix2 a b) := by
  unfold blk0; blk_simp; refine congrArg _ ?_; blk_ext [index0_7]

/-- The table of means in terms of the finished sums and the arrays. -/
theorem out0_real (x3 : Vec Ideal S96x1 .f32) (x4 x5 : Vec Ideal S16x16 .f32) (x6 x7 : Vec Ideal S16x32 .f32) (s : Vec Ideal S96x32 .f32)
    (h3 : ∀ k : Fin 96, x3 (ix2 k 0) = ((inv k : ℝ) : EReal))
    (h4 : ∀ a b, x4 (ix2 a b) = ((x.w1r a b : ℝ) : EReal)) (h5 : ∀ a b, x5 (ix2 a b) = ((x.w1i a b : ℝ) : EReal))
    (h6 : ∀ a b, x6 (ix2 a b) = ((ev a b : ℝ) : EReal)) (h7 : ∀ a b, x7 (ix2 a b) = ((od a b : ℝ) : EReal))
    (hl : ∀ (k : Fin 96) (f : Fin 16), s (ix2 k ⟨f.val, by omega⟩) = ((x.sumRe k f : ℝ) : EReal))
    (hr : ∀ (k : Fin 96) (f : Fin 16), s (ix2 k ⟨16 + f.val, by omega⟩) = ((x.sumIm k f : ℝ) : EReal))
    (k : Fin 96) (f : Fin 32) : out0 (F := Ideal) x3 x4 x5 x6 x7 s (ix2 k f) = ((x.table k f : ℝ) : EReal) := by
  pointwise [out0, k0_pay2, halfL, halfR]
  simp only [h3, h4, h5, h6, h7, hl, hr, ← EReal.coe_mul, ← coe_sum, ← EReal.coe_sub, ← EReal.coe_add]
  rfl

/-- The table the first pass leaves. -/
theorem table_value (hW : Reads W c x) (hinv : ∀ k : Fin 96, W c (Proc.devRef .tc main_v7) (ix2 k 0) = ((inv k : ℝ) : EReal))
    (k : Fin 96) (f : Fin 32) : (dat0 W c).arrAt 8 cfg0.N (ix2 k f) = ((x.table k f : ℝ) : EReal) := by
  refine ((dat0 W c).arrAt_emb_eq_after_last 8 last0 (by decide +kernel) (ix2 k f)).trans ?_
  blk_simp
  rw [after0_8]
  refine out0_real _ _ _ _ _ _ (fun k => ?_) (fun a b => ?_) (fun a b => ?_) (fun a b => ?_) (fun a b => ?_) (sums_left hW) (sums_right hW) k f
  · rw [blk0_3, hinv]
  · rw [blk0_4, hW.w1r]
  · rw [blk0_5, hW.w1i]
  · rw [blk0_6, hW.ev]
  · rw [blk0_7, hW.od]

end Cert.KernelIdeal.Hand
end
-- ==== Proof.Kout.lean ====
/- What the kernel's second pass stores, over the reals. -/
module

public import proofs.«01_k».proof.Proof.Kval

@[expose] public section

set_option maxRecDepth 16384

noncomputable section

namespace Cert.KernelIdeal.Hand

open Idealize.ShloMosaic Cert.KernelIdeal.Gen Cert.Rings Cert.Model
open Cert.Model.Inputs (inv ev od)

theorem coords1 : ∀ t : Fin cfg1.N, ((grid1.coords t) 0).val = t.val := (by decide +kernel : ∀ t : Fin grid1.N, ((grid1.coords t) 0).val = t.val)
theorem index1_0 : ∀ t : Fin cfg1.N, win1_0.index t = ![t.val, 0, 0] := (by decide +kernel : ∀ t : Fin grid1.N, _)
theorem index1_1 : ∀ t : Fin cfg1.N, win1_1.index t = ![t.val, 0, 0] := (by decide +kernel : ∀ t : Fin grid1.N, _)
theorem index1_2 : ∀ t : Fin cfg1.N, win1_2.index t = ![t.val, 0, 0] := (by decide +kernel : ∀ t : Fin grid1.N, _)
theorem index1_3 : ∀ t : Fin cfg1.N, win1_3.index t = ![0, 0] := (by decide +kernel : ∀ t : Fin grid1.N, _)
theorem index1_4 : ∀ t : Fin cfg1.N, win1_4.index t = ![0, 0] := (by decide +kernel : ∀ t : Fin grid1.N, _)
theorem index1_5 : ∀ t : Fin cfg1.N, win1_5.index t = ![0, 0] := (by decide +kernel : ∀ t : Fin grid1.N, _)
theorem index1_6 : ∀ t : Fin cfg1.N, win1_6.index t = ![0, 0] := (by decide +kernel : ∀ t : Fin grid1.N, _)
theorem index1_7 : ∀ t : Fin cfg1.N, win1_7.index t = ![0, 0] := (by decide +kernel : ∀ t : Fin grid1.N, _)
theorem index1_8 : ∀ t : Fin cfg1.N, win1_8.index t = ![0, 0] := (by decide +kernel : ∀ t : Fin grid1.N, _)
theorem index1_9 : ∀ t : Fin cfg1.N, win1_9.index t = ![0, 0] := (by decide +kernel : ∀ t : Fin grid1.N, _)
theorem index1_10 : ∀ t : Fin cfg1.N, win1_10.index t = ![t.val, 0, 0] := (by decide +kernel : ∀ t : Fin grid1.N, _)

theorem row1_lt (t : Fin cfg1.N) (r : Fin 8) : 8 * t.val + r.val < 512 := by
  have h := t.isLt; have : cfg1.N = 64 := N_1; omega

variable (W : Dev nD → Valuation τ sig (Elt Ideal)) (c : Dev nD)

theorem blk1_0 (t : Fin cfg1.N) (r : Fin 8) (l : Fin 512) (f : Fin 16) :
    blk1 W c 0 t (ix3 r l f) = W c (Proc.devRef .tc main_arg0) (ix3 ⟨8 * t.val + r.val, row1_lt t r⟩ l f) := by
  unfold blk1; blk_simp; refine congrArg _ ?_; blk_ext [index1_0]
theorem blk1_1 (t : Fin cfg1.N) (r : Fin 8) (l : Fin 512) (f : Fin 16) :
    blk1 W c 1 t (ix3 r l f) = W c (Proc.devRef .tc main_arg1) (ix3 ⟨8 * t.val + r.val, row1_lt t r⟩ l f) := by
  unfold blk1; blk_simp; refine congrArg _ ?_; blk_ext [index1_1]
theorem blk1_2 (t : Fin cfg1.N) (r : Fin 8) (l : Fin 512) :
    blk1 W c 2 t (ix3 r l 0) = W c (Proc.devRef .tc main_v8) (ix3 ⟨8 * t.val + r.val, row1_lt t r⟩ l 0) := by
  unfold blk1; blk_simp; refine congrArg _ ?_; blk_ext [index1_2]
theorem blk1_3 (t : Fin cfg1.N) (a : Fin 96) (b : Fin 32) : blk1 W c 3 t (ix2 a b) = W c (Proc.devRef .tc main_v9) (ix2 a b) := by
  unfold blk1; blk_simp; refine congrArg _ ?_; blk_ext [index1_3]
theorem blk1_4 (t : Fin cfg1.N) (a : Fin 16) (b : Fin 16) : blk1 W c 4 t (ix2 a b) = W c (Proc.devRef .tc main_arg5) (ix2 a b) := by
  unfold blk1; blk_simp; refine congrArg _ ?_; blk_ext [index1_4]
theorem blk1_5 (t : Fin cfg1.N) (a : Fin 16) (b : Fin 16) : blk1 W c 5 t (ix2 a b) = W c (Proc.devRef .tc main_arg7) (ix2 a b) := by
  unfold blk1; blk_simp; refine congrArg _ ?_; blk_ext [index1_5]
theorem blk1_6 (t : Fin cfg1.N) (a : Fin 16) (b : Fin 16) : blk1 W c 6 t (ix2 a b) = W c (Proc.devRef .tc main_arg6) (ix2 a b) := by
  unfold blk1; blk_simp; refine congrArg _ ?_; blk_ext [index1_6]
theorem blk1_7 (t : Fin cfg1.N) (a : Fin 16) (b : Fin 16) : blk1 W c 7 t (ix2 a b) = W c (Proc.devRef .tc main_arg8) (ix2 a b) := by
  unfold blk1; blk_simp; refine congrArg _ ?_; blk_ext [index1_7]
theorem blk1_8 (t : Fin cfg1.N) (a : Fin 16) (b : Fin 32) : blk1 W c 8 t (ix2 a b) = W c (Proc.devRef .tc main_cst) (ix2 a b) := by
  unfold blk1; blk_simp; refine congrArg _ ?_; blk_ext [index1_8]
theorem blk1_9 (t : Fin cfg1.N) (a : Fin 16) (b : Fin 32) : blk1 W c 9 t (ix2 a b) = W c (Proc.devRef .tc main_cst_0) (ix2 a b) := by
  unfold blk1; blk_simp; refine congrArg _ ?_; blk_ext [index1_9]

variable {W c} {x : Inputs}

/-- One entry of a block of the result, from the block's pixels, the table and the matrices. -/
theorem out1_real (i : grid1.Coords) (x0 x1 : Vec Ideal S8x512x16 .f32) (x2 : Vec Ideal S8x512x1 .i32) (x3 : Vec Ideal S96x32 .f32)
    (x4 x5 x6 x7 : Vec Ideal S16x16 .f32) (x8 x9 : Vec Ideal S16x32 .f32) (r : Fin 8) (l : Fin 512) (f : Fin 32)
    (h0 : ∀ a, x0 (ix3 r l a) = ((x.re (8 * (i 0).val + r.val) l a : ℝ) : EReal))
    (h1 : ∀ a, x1 (ix3 r l a) = ((x.im (8 * (i 0).val + r.val) l a : ℝ) : EReal))
    (h2 : x2 (ix3 r l 0) = x.mask (8 * (i 0).val + r.val) l)
    (h3 : ∀ (k : Fin 96) (b : Fin 32), x3 (ix2 k b) = ((x.table k b : ℝ) : EReal))
    (h4 : ∀ a b, x4 (ix2 a b) = ((x.w1r a b : ℝ) : EReal)) (h5 : ∀ a b, x5 (ix2 a b) = ((x.w1i a b : ℝ) : EReal))
    (h6 : ∀ a b, x6 (ix2 a b) = x.w2r a b) (h7 : ∀ a b, x7 (ix2 a b) = ((x.w2i a b : ℝ) : EReal))
    (h8 : ∀ a b, x8 (ix2 a b) = ((ev a b : ℝ) : EReal)) (h9 : ∀ a b, x9 (ix2 a b) = ((od a b : ℝ) : EReal)) :
    out1 (F := Ideal) i x0 x1 x2 x3 x4 x5 x6 x7 x8 x9 (ix3 r l f) = x.kout (8 * (i 0).val + r.val) l f := by
  have hi : (i 0).val < 64 := (i 0).isLt
  have hring := fun k : Fin 96 => ring_num hi r.isLt l.isLt k.isLt
  pointwise [out1, k1_pay1, k1_pay2, k1_pay3, k1_pay4, k1_pay5, k1_pay6, k1_pay7, k1_pay8, k1_pay9, k1_pay10]
  simp only [hring, mask_num, h0, h1, h2, h3, h4, h5, h6, h7, h8, h9, ofBits_half, ← EReal.coe_mul, ← coe_sum, ← EReal.coe_sub, ← EReal.coe_add]
  rfl

/-- The array the second pass leaves. -/
theorem out_value (hW : Reads W c x) (htab : ∀ (k : Fin 96) (b : Fin 32), W c (Proc.devRef .tc main_v9) (ix2 k b) = ((x.table k b : ℝ) : EReal))
    (h2r : ∀ a b : Fin 16, W c (Proc.devRef .tc main_arg6) (ix2 a b) = x.w2r a b)
    (h2i : ∀ a b : Fin 16, W c (Proc.devRef .tc main_arg8) (ix2 a b) = ((x.w2i a b : ℝ) : EReal)) :
    (dat1 W c).arrAt 10 cfg1.N = fun y => x.kout (y 0) (y 1) (y 2) := by
  refine (dat1 W c).arrAt_eq_of_covers 10 _ (by decide +kernel) fun t hf y => ?_
  blk_simp
  rw [after1_10]
  obtain ⟨r, l, f, rfl⟩ : ∃ (r : Fin 8) (l : Fin 512) (f : Fin 32), y = ix3 r l f := ⟨y 0, y 1, y 2, (ix3_eta y).symm⟩
  refine (out1_real (x := x) (grid1.coords t) _ _ _ _ _ _ _ _ _ _ r l f (fun a => ?_) (fun a => ?_) ?_ (fun k b => ?_)
    (fun a b => ?_) (fun a b => ?_) (fun a b => ?_) (fun a b => ?_) (fun a b => ?_) (fun a b => ?_)).trans ?_
  · rw [blk1_0, hW.re, coords1]
  · rw [blk1_1, hW.im, coords1]
  · rw [blk1_2, hW.mask, coords1]
  · rw [blk1_3, htab]
  · rw [blk1_4, hW.w1r]
  · rw [blk1_5, hW.w1i]
  · rw [blk1_6, h2r]
  · rw [blk1_7, h2i]
  · rw [blk1_8, hW.ev]
  · rw [blk1_9, hW.od]
  · have e : (win1_10.blk t).view.emb (ix3 r l f) 2 = f := by
      apply Fin.ext; blk_simp [index1_10]
    rw [e, index1_10, coords1, Nat.mul_comm]
    simp

end Cert.KernelIdeal.Hand
end
-- ==== Proof.Khost.lean ====
/- The kernel's result over the reals: the host's tables, then the two passes. -/
module

public import proofs.«01_k».proof.Proof.Kout
public import Idealize.ShloMosaic.Lib.StableHlo.ReadAt

@[expose] public section

set_option maxRecDepth 16384

noncomputable section

namespace Cert.KernelIdeal.Hand

open Idealize.ShloMosaic Cert.KernelIdeal.Gen Cert.Rings Cert.Model
open Cert.Model.Inputs (inv ev od evc odc)

/-! ## The host's tables -/

/-- The table of counts holds the rings' numbers of pixels. -/
theorem lit0_eq : ∀ k : Fin 96, lit0 (S96x1.rowMajor (ix2 k 0)) = BitVec.ofNat 32 (counts.getD k.val 0) := by decide +kernel
theorem counts_pos : ∀ k : Fin 96, (k.val < 91 → 0 < counts.getD k.val 0 ∧ counts.getD k.val 0 < 2 ^ 31) ∧ (¬ k.val < 91 → counts.getD k.val 0 = 0) := by
  decide +kernel
/-- The two matrices of zeros and ones. -/
theorem lit1_eq : ∀ (a : Fin 16) (b : Fin 32), lit1 (S16x32.rowMajor (ix2 a b)) = if b.val = 2 * a.val then 0x3F800000#32 else 0#32 := by
  decide +kernel
theorem lit2_eq : ∀ (a : Fin 16) (b : Fin 32), lit2 (S16x32.rowMajor (ix2 a b)) = if b.val = 2 * a.val + 1 then 0x3F800000#32 else 0#32 := by
  decide +kernel

/-- The words of one and of zero. -/
theorem bits_ind (p : Prop) [Decidable p] : Ideal.ofBits .f32 (if p then 0x3F800000#32 else 0#32) = ((ind p : ℝ) : EReal) := by
  unfold ind
  split
  · simp [Ideal.ofBits_one_f32]
  · simp [Ideal.ofBits, Ideal.ieee]

variable (m : (ℓ : Loc nD τ sig) → Buf (Elt Ideal) ℓ) (c : Dev nD)

theorem v3_mask (i j : Fin 512) : V3 m c (Proc.devRef .tc main_v8) (ix3 i j 0) = m (c, Proc.devRef .tc main_arg2) (ix2 i j) := by
  unfold V3; after_reads_at

theorem v3_ev (a : Fin 16) (b : Fin 32) : V3 m c (Proc.devRef .tc main_cst) (ix2 a b) = ((ev a b : ℝ) : EReal) := by
  unfold V3 V2 V1
  after_reads_at
  rw [lit1_eq, bits_ind]; rfl
theorem v3_od (a : Fin 16) (b : Fin 32) : V3 m c (Proc.devRef .tc main_cst_0) (ix2 a b) = ((od a b : ℝ) : EReal) := by
  unfold V3 V2 V1
  after_reads_at
  rw [lit2_eq, bits_ind]; rfl

/-- The host's reciprocals are the reciprocals of the rings' numbers of pixels. -/
theorem v3_inv (k : Fin 96) : V3 m c (Proc.devRef .tc main_v7) (ix2 k 0) = ((inv k : ℝ) : EReal) := by
  unfold V3 V2 V1
  after_reads_at
  obtain ⟨h1, h2⟩ := counts_pos k
  have hs : ∀ n : ℕ, n < 2 ^ 31 → (FloatOps.sitofp (F := Ideal) .f32 (BitVec.ofNat 32 n) : EReal) = ((n : ℝ) : EReal) := fun n hn => by
    show (((BitVec.ofNat 32 n).toInt : ℝ) : EReal) = _
    rw [WordCmp.toInt_ofNat_of_lt (by omega)]; norm_cast
  rw [lit0_eq]
  unfold Inputs.inv
  by_cases hk : k.val < 91
  · obtain ⟨hp, hl⟩ := h1 hk
    have hp' : (0 : ℝ) < (counts.getD k.val 0 : ℕ) := by exact_mod_cast hp
    have h1' : (1 : ℝ) ≤ (counts.getD k.val 0 : ℕ) := by exact_mod_cast hp
    rw [hs _ hl, if_pos (by exact_mod_cast hp'), if_pos hk, count_eq hk, max_eq_left (by exact_mod_cast h1'),
      Ideal.div_coe (ne_of_gt hp'), one_mul]
  · rw [h2 hk, hs 0 (by norm_num), if_neg (by simp), if_neg hk]
    show Ideal.ofBits .f32 0#32 = _
    simp [Ideal.ofBits, Ideal.ieee]

/-! ## The result -/

/-- The arguments hold the problem's data. -/
structure Holds (x : Inputs) : Prop where
  re : ∀ (i j : Fin 512) (f : Fin 16), m (c, Proc.devRef .tc main_arg0) (ix3 i j f) = ((x.re i j f : ℝ) : EReal)
  im : ∀ (i j : Fin 512) (f : Fin 16), m (c, Proc.devRef .tc main_arg1) (ix3 i j f) = ((x.im i j f : ℝ) : EReal)
  mask : ∀ i j : Fin 512, m (c, Proc.devRef .tc main_arg2) (ix2 i j) = x.mask i j
  w1r : ∀ a b : Fin 16, m (c, Proc.devRef .tc main_arg5) (ix2 a b) = ((x.w1r a b : ℝ) : EReal)
  w2r : ∀ a b : Fin 16, m (c, Proc.devRef .tc main_arg6) (ix2 a b) = x.w2r a b
  w1i : ∀ a b : Fin 16, m (c, Proc.devRef .tc main_arg7) (ix2 a b) = ((x.w1i a b : ℝ) : EReal)
  w2i : ∀ a b : Fin 16, m (c, Proc.devRef .tc main_arg8) (ix2 a b) = ((x.w2i a b : ℝ) : EReal)

/-- An array the host does not write is the argument still. -/
theorem V3_arg (r : Ref sig .tc) (h0 : r ∉ hostOps0_W) (h1 : r ∉ hostOps0_1_W) (h2 : r ∉ hostOps0_2_W) :
    V3 m c (Proc.devRef .tc r) = m (c, Proc.devRef .tc r) :=
  (V3_of m c r h2).trans ((V2_of m c r h1).trans (V1_of m c r h0))
/-- The first pass writes its table only. -/
theorem S4_of (r : Ref sig .tc) (h : r ∉ ([main_v9] : List (Ref sig .tc))) : S4 m c (Proc.devRef .tc r) = V3 m c (Proc.devRef .tc r) := by
  rw [← V4_eq]; exact V4_of m (outs m) c r h

variable {m c} {x : Inputs}

theorem reads3 (h : Holds m c x) : Reads (V3 m) c x where
  re i j f := by rw [V3_arg m c main_arg0 (by decide) (by decide) (by decide)]; exact h.re i j f
  im i j f := by rw [V3_arg m c main_arg1 (by decide) (by decide) (by decide)]; exact h.im i j f
  mask i j := (v3_mask m c i j).trans (h.mask i j)
  w1r a b := by rw [V3_arg m c main_arg5 (by decide) (by decide) (by decide)]; exact h.w1r a b
  w1i a b := by rw [V3_arg m c main_arg7 (by decide) (by decide) (by decide)]; exact h.w1i a b
  ev := v3_ev m c
  od := v3_od m c

theorem reads4 (h : Holds m c x) : Reads (S4 m) c x where
  re i j f := by rw [S4_of m c main_arg0 (by decide)]; exact (reads3 h).re i j f
  im i j f := by rw [S4_of m c main_arg1 (by decide)]; exact (reads3 h).im i j f
  mask i j := by rw [S4_of m c main_v8 (by decide)]; exact (reads3 h).mask i j
  w1r a b := by rw [S4_of m c main_arg5 (by decide)]; exact (reads3 h).w1r a b
  w1i a b := by rw [S4_of m c main_arg7 (by decide)]; exact (reads3 h).w1i a b
  ev a b := by rw [S4_of m c main_cst (by decide)]; exact (reads3 h).ev a b
  od a b := by rw [S4_of m c main_cst_0 (by decide)]; exact (reads3 h).od a b

/-- The kernel's result, entry by entry: column `2 f + b` of the second pass's array. -/
theorem result_value (h : Holds m c x) (i j : Fin 512) (f : Fin 16) (b : Fin 2) :
    result m c (ix4 i j f b) = x.kout i j ⟨f.val * 2 + b.val, by omega⟩ := by
  unfold result V6
  after_reads_at
  rw [V5_eq]
  unfold S5
  rw [Function.update_self]
  have e := out_value (reads4 h)
    (fun k b => by
      unfold S4
      rw [Function.update_self]
      exact table_value (reads3 h) (v3_inv m c) k b)
    (fun a b => by rw [S4_of m c main_arg6 (by decide), V3_arg m c main_arg6 (by decide) (by decide) (by decide)]; exact h.w2r a b)
    (fun a b => by rw [S4_of m c main_arg8 (by decide), V3_arg m c main_arg8 (by decide) (by decide) (by decide)]; exact h.w2i a b)
  exact congrFun e _

/-- The real parts, -/
theorem result_re (h : Holds m c x) (i j : Fin 512) (f : Fin 16) : result m c (ix4 i j f 0) = x.rre i j f := by
  rw [result_value h, ← x.kout_even i.isLt j.isLt]
  congr 2
  show f.val * 2 + 0 = 2 * f.val
  omega
/-- and the imaginary ones. -/
theorem result_im (h : Holds m c x) (i j : Fin 512) (f : Fin 16) : result m c (ix4 i j f 1) = x.rim i j f := by
  rw [result_value h, ← x.kout_odd i.isLt j.isLt]
  congr 2
  show f.val * 2 + 1 = 2 * f.val + 1
  omega

end Cert.KernelIdeal.Hand
end
-- ==== Proof.Rval.lean ====
/- The reference's result over the reals: every pixel's product, the rings' means of them, the two outputs. -/
module

public import proofs.«01_k».proof.Proof.Gen.ReferenceIdeal.Read
public import proofs.«01_k».proof.Proof.Rows
public import proofs.«01_k».proof.Proof.Khost

@[expose] public section

set_option maxRecDepth 16384

noncomputable section

namespace Cert.ReferenceIdeal.Read

open Idealize.ShloMosaic Cert.ReferenceIdeal Cert.Rings Cert.Model
open Facts₀

/-! ## The ring of a pixel -/

/-- The reference computes a pixel's ring. -/
theorem ring_at (i j : Fin 512) : val_main_v17 (F := Ideal) (ix2 i j) = BitVec.ofNat 32 (ring i j) := by
  pointwise [val_main_v17, val_main_v16, val_main_v15, val_main_v14, val_main_v13, val_main_v12, val_main_v11, val_main_v10, val_main_v9,
    val_main_v8, val_main_v7, val_main_v6, val_main_v5, val_main_v4, val_main_v3, val_main_v2, val_main_v1, val_main_v0, val_main_c, val_main_cst]
  rw [add_neg_word, add_neg_word, rad_word i.isLt j.isLt]
  exact ring_word (rad2_le i.isLt j.isLt)

/-- A ring's number as a word. -/
theorem ring_toInt (i j : Fin 512) : (BitVec.ofNat 32 (ring i j)).toInt = (ring i j : ℤ) :=
  WordCmp.toInt_ofNat_of_lt (by have := ring_lt i.isLt j.isLt; omega)

/-- A ring's number is not negative, so no row is counted from the end. -/
theorem ring_select (i j : Fin 512) (a : BitVec 32) :
    Scalar.select (IntOp.cmpi .slt (BitVec.ofNat 32 (ring i j)) 0#32) a (BitVec.ofNat 32 (ring i j)) = BitVec.ofNat 32 (ring i j) := by
  have : IntOp.cmpi .slt (BitVec.ofNat 32 (ring i j)) 0#32 = 0#1 := by
    show BitVec.ofBool ((BitVec.ofNat 32 (ring i j)).slt 0#32) = _
    rw [BitVec.slt, ring_toInt, decide_eq_false (by simp)]; rfl
  rw [this]; rfl

/-- The row numbers of the three scatters and of the two gathers are the pixel's ring. -/
theorem v27_at (i j : Fin 512) : val_main_v27 (F := Ideal) (ix3 i j 0) = BitVec.ofNat 32 (ring i j) := by
  pointwise [val_main_v27, val_main_v26, val_main_v25, val_main_v24, val_main_v23, val_main_v22, val_main_c_2, val_main_c_3]
  rw [ring_at, ring_select]
theorem v58_at (i j : Fin 512) : val_main_v58 (F := Ideal) (ix3 i j 0) = BitVec.ofNat 32 (ring i j) := by
  pointwise [val_main_v58, val_main_v57, val_main_v56, val_main_v55, val_main_v54, val_main_v53, val_main_c_8, val_main_c_9]
  rw [ring_at, ring_select]
theorem v69_at (i j : Fin 512) : val_main_v69 (F := Ideal) (ix3 i j 0) = BitVec.ofNat 32 (ring i j) := by
  pointwise [val_main_v69, val_main_v68, val_main_v67, val_main_v66, val_main_v65, val_main_v64, val_main_c_11, val_main_c_12]
  rw [ring_at, ring_select]
theorem call0_at (i j : Fin 512) : val_main_call0_v0 (F := Ideal) (ix3 i j 0) = BitVec.ofNat 32 (ring i j) := by
  pointwise [val_main_call0_v0]
  rw [ring_at]
theorem call1_at (i j : Fin 512) : val_main_call1_v0 (F := Ideal) (ix3 i j 0) = BitVec.ofNat 32 (ring i j) := by
  pointwise [val_main_call1_v0]
  rw [ring_at]
/-- Every pixel lies in a ring. -/
theorem in_ring (i j : Fin 512) : val_main_v20 (F := Ideal) (ix3 i j 0) = 1#1 := by
  pointwise [val_main_v20, val_main_v19, val_main_v18, val_main_c_0]
  rw [ring_at]
  show BitVec.ofBool ((BitVec.ofNat 32 (ring i j)).slt 91#32) = _
  have := ring_lt i.isLt j.isLt
  rw [BitVec.slt, ring_toInt, decide_eq_true (by
    show (ring i j : ℤ) < 91
    omega)]
  rfl

/-! ## Sums by ring -/

/-- A square sum over numbers below `n`, over the indices. -/
theorem sum_range_fin (n : ℕ) (g : ℕ → ℕ → ℝ) : (∑ i ∈ Finset.range n, ∑ j ∈ Finset.range n, g i j) = ∑ i : Fin n, ∑ j : Fin n, g i j := by
  rw [← Fin.sum_univ_eq_sum_range (fun i => ∑ j ∈ Finset.range n, g i j) n]
  exact Finset.sum_congr rfl fun i _ => (Fin.sum_univ_eq_sum_range (fun j => g i j) n).symm
/-- The sum over all pixels, over the indices. -/
theorem overAll_fin (g : ℕ → ℕ → ℝ) : overAll g = ∑ i : Fin 512, ∑ j : Fin 512, g i j := sum_range_fin 512 g

/-- The sum over the pixels that name row `k`, as a real. -/
theorem collect (u : ℕ → ℕ → ℝ) (k : ℕ) :
    (0 : EReal) + ∑ i : Fin 512, ∑ j : Fin 512, (if ring i j = k then ((u i j : ℝ) : EReal) else 0)
      = ((overAll fun i j => ind (ring i j = k) * u i j : ℝ) : EReal) := by
  have e : ∀ i j : ℕ, (if ring i j = k then ((u i j : ℝ) : EReal) else 0) = ((ind (ring i j = k) * u i j : ℝ) : EReal) := fun i j => by
    unfold ind; split
    · rw [one_mul]
    · rw [zero_mul]; rfl
  rw [overAll_fin, zero_add]
  simp only [e, coe_sum]

/-- A ring's number of pixels as a sum of reals. -/
theorem count_real (k : ℕ) : (overAll fun i j => ind (ring i j = k) * 1) = (count k : ℝ) := by
  unfold overAll Rings.count ind
  push_cast
  simp only [mul_one]

/-- Every ring holds a pixel. -/
theorem count_ne_zero {k : ℕ} (h : k < 91) : (count k : ℝ) ≠ 0 := by
  have := ((Cert.KernelIdeal.Hand.counts_pos ⟨k, by omega⟩).1 h).1
  rw [count_eq h]
  exact_mod_cast Nat.pos_iff_ne_zero.mp this

/-- The numbers of pixels. -/
theorem v29_at (k : Fin 91) : val_main_v29 (F := Ideal) (ix1 k) = ((count k : ℝ) : EReal) := by
  refine (Rows.one_apply scatter_S91_S512x512x1_S512x512_n_0_0_2_wf _ _ _ (fun i j => ⟨ring i j, ring_lt i.isLt j.isLt⟩)
    (fun i j => by rw [v27_at, ring_toInt]) k).trans ?_
  rw [← count_real, ← collect (fun _ _ => 1)]
  congr 1
  · pointwise [val_main_v21, val_main_cst_1]
  · refine Finset.sum_congr rfl fun i _ => Finset.sum_congr rfl fun j _ => if_congr Iff.rfl ?_ rfl
    pointwise [val_main_v28, val_main_cst_4]
    exact EReal.coe_one.symm

/-- A mask's bit as a number. -/
theorem mask_bit (a b : BitVec 32) : (FloatOps.uitofp (F := Ideal) .f32 (IntOp.cmpi .eq a b) : EReal) = ((ind (a = b) : ℝ) : EReal) := by
  show (((BitVec.ofBool (decide (a = b))).toNat : ℝ) : EReal) = _
  unfold ind
  by_cases h : a = b
  · rw [decide_eq_true h, if_pos h, show (BitVec.ofBool true).toNat = 1 from rfl, Nat.cast_one]
  · rw [decide_eq_false h, if_neg h, show (BitVec.ofBool false).toNat = 0 from rfl, Nat.cast_zero]

/-! ## The values -/

/-- The arrays hold the problem's data. -/
structure Holds (x0 x1 : S512x512x16.Idx → EReal) (x2 : S512x512.Idx → BitVec 32) (x5 x6 x7 x8 : S16x16.Idx → EReal) (x : Inputs) : Prop where
  re : ∀ (i j : Fin 512) (f : Fin 16), x0 (ix3 i j f) = ((x.re i j f : ℝ) : EReal)
  im : ∀ (i j : Fin 512) (f : Fin 16), x1 (ix3 i j f) = ((x.im i j f : ℝ) : EReal)
  mask : ∀ i j : Fin 512, x2 (ix2 i j) = x.mask i j
  w1r : ∀ a b, x5 (ix2 a b) = ((x.w1r a b : ℝ) : EReal)
  w2r : ∀ a b, x6 (ix2 a b) = x.w2r a b
  w1i : ∀ a b, x7 (ix2 a b) = ((x.w1i a b : ℝ) : EReal)
  w2i : ∀ a b, x8 (ix2 a b) = ((x.w2i a b : ℝ) : EReal)

variable {x0 x1 : S512x512x16.Idx → EReal} {x2 : S512x512.Idx → BitVec 32} {x5 x6 x7 x8 : S16x16.Idx → EReal} {x : Inputs}
variable (x3 x4 : S512x512x16.Idx → EReal) (h : Holds x0 x1 x2 x5 x6 x7 x8 x) (i j : Fin 512) (f : Fin 16)
include h

/-- The masked products, real and imaginary part. -/
theorem v48_at : val_main_v48 (F := Ideal) x0 x1 x2 x5 x7 (ix3 i j f) = ((x.mulRe x.unc x.w1r x.w1i f i j : ℝ) : EReal) := by
  pointwise [val_main_v48, val_main_v46, val_main_v47, val_main_v39, val_main_v41, val_main_v38, val_main_v40, val_main_v33, val_main_v32,
    val_main_v31, val_main_v30, val_main_c_5]
  simp only [h.re, h.im, h.mask, h.w1r, h.w1i, mask_bit, ← EReal.coe_mul, ← coe_sum, ← EReal.coe_sub]; rfl
theorem v51_at : val_main_v51 (F := Ideal) x0 x1 x2 x5 x7 (ix3 i j f) = ((x.mulIm x.unc x.w1r x.w1i f i j : ℝ) : EReal) := by
  pointwise [val_main_v51, val_main_v49, val_main_v50, val_main_v39, val_main_v41, val_main_v38, val_main_v40, val_main_v33, val_main_v32,
    val_main_v31, val_main_v30, val_main_c_5]
  simp only [h.re, h.im, h.mask, h.w1r, h.w1i, mask_bit, ← EReal.coe_mul, ← coe_sum, ← EReal.coe_add]; rfl
theorem v88_at : val_main_v88 (F := Ideal) x0 x1 x2 x6 x8 (ix3 i j f) = x.corRe f i j := by
  pointwise [val_main_v88, val_main_v86, val_main_v87, val_main_v43, val_main_v45, val_main_v42, val_main_v44, val_main_v37, val_main_v36,
    val_main_v35, val_main_v34, val_main_c_6]
  simp only [h.re, h.im, h.mask, h.w2r, h.w2i, mask_bit, ← EReal.coe_mul, ← coe_sum, ← EReal.coe_sub]; rfl
theorem v91_at : val_main_v91 (F := Ideal) x0 x1 x2 x6 x8 (ix3 i j f) = x.corIm f i j := by
  pointwise [val_main_v91, val_main_v89, val_main_v90, val_main_v43, val_main_v45, val_main_v42, val_main_v44, val_main_v37, val_main_v36,
    val_main_v35, val_main_v34, val_main_c_6]
  simp only [h.re, h.im, h.mask, h.w2r, h.w2i, mask_bit, ← EReal.coe_mul, ← coe_sum, ← EReal.coe_add]; rfl

/-- The rings' means of the products. -/
theorem v62_at (k : Fin 91) : val_main_v62 (F := Ideal) x0 x1 x2 x5 x7 (ix2 k f) = ((Inputs.mean (x.mulRe x.unc x.w1r x.w1i f) k : ℝ) : EReal) := by
  have hs : val_main_v59 (F := Ideal) x0 x1 x2 x5 x7 (ix2 k f)
      = ((overAll fun i j => ind (ring i j = k) * x.mulRe x.unc x.w1r x.w1i f i j : ℝ) : EReal) := by
    refine (Rows.row_apply scatter_S91x16_S512x512x1_S512x512x16_2_0_0_2_wf _ _ _ (fun i j => ⟨ring i j, ring_lt i.isLt j.isLt⟩)
      (fun i j => by rw [v58_at, ring_toInt]) k f).trans ?_
    rw [← collect]
    congr 1
    · pointwise [val_main_v52, val_main_cst_7]
    · exact Finset.sum_congr rfl fun i _ => Finset.sum_congr rfl fun j _ => if_congr Iff.rfl (v48_at h i j f) rfl
  pointwise [val_main_v62, val_main_v61, val_main_v60]
  rw [hs, v29_at, Ideal.div_coe (count_ne_zero k.isLt), ← EReal.coe_mul, mul_one_div]; rfl
theorem v73_at (k : Fin 91) : val_main_v73 (F := Ideal) x0 x1 x2 x5 x7 (ix2 k f) = ((Inputs.mean (x.mulIm x.unc x.w1r x.w1i f) k : ℝ) : EReal) := by
  have hs : val_main_v70 (F := Ideal) x0 x1 x2 x5 x7 (ix2 k f)
      = ((overAll fun i j => ind (ring i j = k) * x.mulIm x.unc x.w1r x.w1i f i j : ℝ) : EReal) := by
    refine (Rows.row_apply scatter_S91x16_S512x512x1_S512x512x16_2_0_0_2_wf _ _ _ (fun i j => ⟨ring i j, ring_lt i.isLt j.isLt⟩)
      (fun i j => by rw [v69_at, ring_toInt]) k f).trans ?_
    rw [← collect]
    congr 1
    · pointwise [val_main_v63, val_main_cst_10]
    · exact Finset.sum_congr rfl fun i _ => Finset.sum_congr rfl fun j _ => if_congr Iff.rfl (v51_at h i j f) rfl
  pointwise [val_main_v73, val_main_v72, val_main_v71]
  rw [hs, v29_at, Ideal.div_coe (count_ne_zero k.isLt), ← EReal.coe_mul, mul_one_div]; rfl

/-- The mean of the pixel's ring. -/
theorem v74_at : val_main_v74 (F := Ideal) x0 x1 x2 x5 x7 (ix3 i j f) = ((Inputs.mean (x.mulRe x.unc x.w1r x.w1i f) (ring i j) : ℝ) : EReal) :=
  (Rows.gather_row gather_S91x16_S512x512x1_S512x512x16_2_0_n_n_0_2_116_wf _ _ i j f ⟨ring i j, ring_lt i.isLt j.isLt⟩
    (by rw [call0_at, ring_toInt])).trans (v62_at h f _)
theorem v75_at : val_main_v75 (F := Ideal) x0 x1 x2 x5 x7 (ix3 i j f) = ((Inputs.mean (x.mulIm x.unc x.w1r x.w1i f) (ring i j) : ℝ) : EReal) :=
  (Rows.gather_row gather_S91x16_S512x512x1_S512x512x16_2_0_n_n_0_2_116_wf _ _ i j f ⟨ring i j, ring_lt i.isLt j.isLt⟩
    (by rw [call1_at, ring_toInt])).trans (v73_at h f _)

/-- The reference's real part, -/
theorem reference_re : val_main_v104 (F := Ideal) x0 x1 x2 x3 x4 x5 x6 x7 x8 (ix4 i j f 0) = x.rre i j f := by
  pointwise [val_main_v104, val_main_v102, val_main_v103, val_main_v99, val_main_call2_v0, val_main_v98, val_main_v83, val_main_v82, val_main_v78,
    val_main_v77, val_main_cst_13, val_main_v76, val_main_v94, val_main_v93, val_main_v92, val_main_v33, val_main_v32, val_main_v31, val_main_v30,
    val_main_c_5, val_main_v37, val_main_v36, val_main_v35, val_main_v34, val_main_c_6]
  rw [in_ring, v48_at h, v74_at h, v88_at h, ofBits_half]
  simp only [h.mask, mask_bit, ← EReal.coe_mul, ← EReal.coe_add, ← EReal.coe_sub]; rfl
/-- and its imaginary part. -/
theorem reference_im : val_main_v104 (F := Ideal) x0 x1 x2 x3 x4 x5 x6 x7 x8 (ix4 i j f 1) = x.rim i j f := by
  pointwise [val_main_v104, val_main_v102, val_main_v103, val_main_v101, val_main_call3_v0, val_main_v100, val_main_v85, val_main_v84, val_main_v81,
    val_main_v80, val_main_cst_14, val_main_v79, val_main_v97, val_main_v96, val_main_v95, val_main_v33, val_main_v32, val_main_v31, val_main_v30,
    val_main_c_5, val_main_v37, val_main_v36, val_main_v35, val_main_v34, val_main_c_6]
  rw [in_ring, v51_at h, v75_at h, v91_at h, ofBits_half]
  simp only [h.mask, mask_bit, ← EReal.coe_mul, ← EReal.coe_add, ← EReal.coe_sub]; rfl

end Cert.ReferenceIdeal.Read
end
-- ==== Proof.Final.lean ====
/- The precondition read as "these arrays hold reals", and the two results' equality under it. -/
module

public import proofs.«01_k».proof.Defs
public import proofs.«01_k».proof.Proof.Rval
public import Idealize.ShloMosaic.Lib.ReduceAll

@[expose] public section

set_option maxRecDepth 16384

noncomputable section

namespace Cert.Final

open Idealize.ShloMosaic Cert.Model

/-! ## The precondition -/

/-- The side conditions the predicate states. -/
theorem pre_facts : Cert.Pre_finite.Facts where
  bcast_S_S512x512x16 := by decide
  reducesTo_S512x512x16_S_d0_1_2 := by decide
  h_S_ := by decide
  bcast_S_S16x16 := by decide
  reducesTo_S16x16_S_d0_1 := by decide

/-- A value whose magnitude is below infinity is a real. -/
theorem real_of_lt (a : EReal) (h : FloatOps.cmpf (F := Ideal) (φ := .f32) .olt (FloatOps.hostAbsf (F := Ideal) (φ := .f32) a)
    (FloatOps.ofBits (F := Ideal) .f32 0x7F800000#32) = 1#1) : a = ((a.toReal : ℝ) : EReal) := by
  have htop : Ideal.ofBits .f32 0x7F800000#32 = ⊤ := by simp [Ideal.ofBits, Ideal.ieee]
  have h' : BitVec.ofBool (decide (max a (-a) < Ideal.ofBits .f32 0x7F800000#32)) = 1#1 := h
  rw [htop] at h'
  have hlt : max a (-a) < ⊤ := by
    by_contra hn
    rw [decide_eq_false hn] at h'
    exact absurd h' (by decide)
  rw [max_lt_iff] at hlt
  refine (EReal.coe_toReal hlt.1.ne ?_).symm
  rintro rfl
  simp at hlt

/-- An array all of whose magnitudes are below infinity holds reals. -/
theorem all_real {s : Shape} {axes : List (Fin s.rank)} (a : s.Idx → EReal) (hb : (⟨0, ![]⟩ : Shape).BroadcastsInDim s ![])
    (hr : s.ReducesTo axes ⟨0, ![]⟩) (h0 : 0 < (⟨0, ![]⟩ : Shape).numel) (j : (⟨0, ![]⟩ : Shape).Idx)
    (h : Host.reduce IntOp.andi (cmpf (F := Ideal) (φ := .f32) .olt (Host.absf a)
      (broadcastInDim s ![] hb (constant (F := Ideal) ⟨0, ![]⟩ .f32 0x7F800000#32))) (constantI ⟨0, ![]⟩ 1 1#1) hr h0 j = 1#1)
    (i : s.Idx) : a i = (((a i).toReal : ℝ) : EReal) :=
  haveI : Subsingleton (⟨0, ![]⟩ : Shape).Idx := ⟨fun p q => funext fun b => b.elim0⟩
  real_of_lt (a i) (Host.reduce_andi_all _ _ hr h0 j h i)

/-- Under the precondition the image and the matrices, but for the second one's real part, hold reals. -/
theorem args_real [Cert.Pre_finite.Facts] (a0 a1 : (⟨3, ![512, 512, 16]⟩ : Shape).Idx → EReal) (a2 : (⟨2, ![512, 512]⟩ : Shape).Idx → BitVec 32)
    (a3 a4 : (⟨3, ![512, 512, 16]⟩ : Shape).Idx → EReal) (a5 a6 a7 a8 : (⟨2, ![16, 16]⟩ : Shape).Idx → EReal)
    (h : Cert.Pre_finite.fn (F := Ideal) a0 a1 a2 a3 a4 a5 a6 a7 a8 = fun _ => 1#1) :
    (∀ i, a0 i = (((a0 i).toReal : ℝ) : EReal)) ∧ (∀ i, a1 i = (((a1 i).toReal : ℝ) : EReal)) ∧ (∀ i, a5 i = (((a5 i).toReal : ℝ) : EReal))
      ∧ (∀ i, a7 i = (((a7 i).toReal : ℝ) : EReal)) ∧ ∀ i, a8 i = (((a8 i).toReal : ℝ) : EReal) := by
  have e := congrFun h ix0
  unfold Cert.Pre_finite.fn Cert.Pre_finite.fn_part1 at e
  obtain ⟨e, e8⟩ := IntOp.andi_eq_one.1 e
  obtain ⟨e, e7⟩ := IntOp.andi_eq_one.1 e
  obtain ⟨e, e5⟩ := IntOp.andi_eq_one.1 e
  obtain ⟨e0, e1⟩ := IntOp.andi_eq_one.1 e
  exact ⟨all_real a0 _ _ _ _ e0, all_real a1 _ _ _ _ e1, all_real a5 _ _ _ _ e5, all_real a7 _ _ _ _ e7,
    all_real a8 _ _ _ _ e8⟩

/-! ## The results -/

/-- The problem's data in the arrays. -/
def data (a0 a1 : (⟨3, ![512, 512, 16]⟩ : Shape).Idx → EReal) (a2 : (⟨2, ![512, 512]⟩ : Shape).Idx → BitVec 32)
    (a5 a6 a7 a8 : (⟨2, ![16, 16]⟩ : Shape).Idx → EReal) : Inputs where
  re i j f := if h : i < 512 ∧ j < 512 then (a0 (ix3 ⟨i, h.1⟩ ⟨j, h.2⟩ f)).toReal else 0
  im i j f := if h : i < 512 ∧ j < 512 then (a1 (ix3 ⟨i, h.1⟩ ⟨j, h.2⟩ f)).toReal else 0
  mask i j := if h : i < 512 ∧ j < 512 then a2 (ix2 ⟨i, h.1⟩ ⟨j, h.2⟩) else 0#32
  w1r a b := (a5 (ix2 a b)).toReal
  w2r a b := a6 (ix2 a b)
  w1i a b := (a7 (ix2 a b)).toReal
  w2i a b := (a8 (ix2 a b)).toReal

/-- Under the precondition the arrays hold their data. -/
theorem holds [Cert.Pre_finite.Facts] {a0 a1 : (⟨3, ![512, 512, 16]⟩ : Shape).Idx → EReal} {a2 : (⟨2, ![512, 512]⟩ : Shape).Idx → BitVec 32}
    {a3 a4 : (⟨3, ![512, 512, 16]⟩ : Shape).Idx → EReal} {a5 a6 a7 a8 : (⟨2, ![16, 16]⟩ : Shape).Idx → EReal}
    (h : Cert.Pre_finite.fn (F := Ideal) a0 a1 a2 a3 a4 a5 a6 a7 a8 = fun _ => 1#1) :
    Cert.ReferenceIdeal.Read.Holds a0 a1 a2 a5 a6 a7 a8 (data a0 a1 a2 a5 a6 a7 a8) :=
  have r := args_real a0 a1 a2 a3 a4 a5 a6 a7 a8 h
  { re := fun i j f => (r.1 _).trans (by
      show _ = ((dite _ _ _ : ℝ) : EReal)
      rw [dif_pos (And.intro i.isLt j.isLt)])
    im := fun i j f => (r.2.1 _).trans (by
      show _ = ((dite _ _ _ : ℝ) : EReal)
      rw [dif_pos (And.intro i.isLt j.isLt)])
    mask := fun i j => by
      show a2 (ix2 i j) = dite _ _ _
      rw [dif_pos (And.intro i.isLt j.isLt)]
    w1r := fun a b => r.2.2.1 _
    w2r := fun _ _ => rfl
    w1i := fun a b => r.2.2.2.1 _
    w2i := fun a b => r.2.2.2.2 _ }

/-- Under the precondition the kernel's result is the reference's on the same arguments. -/
theorem result_eq [Cert.Pre_finite.Facts] (m : (ℓ : Loc Cert.KernelIdeal.nD Cert.KernelIdeal.τ Cert.KernelIdeal.sig) → Buf (Elt Ideal) ℓ)
    (c : Dev Cert.KernelIdeal.nD) {a0 a1 : (⟨3, ![512, 512, 16]⟩ : Shape).Idx → EReal} {a2 : (⟨2, ![512, 512]⟩ : Shape).Idx → BitVec 32}
    {a3 a4 : (⟨3, ![512, 512, 16]⟩ : Shape).Idx → EReal} {a5 a6 a7 a8 : (⟨2, ![16, 16]⟩ : Shape).Idx → EReal}
    (h0 : m ((c.tc : Thread Cert.KernelIdeal.nD Cert.KernelIdeal.τ).loc Cert.KernelIdeal.main_arg0) = a0)
    (h1 : m ((c.tc : Thread Cert.KernelIdeal.nD Cert.KernelIdeal.τ).loc Cert.KernelIdeal.main_arg1) = a1)
    (h2 : m ((c.tc : Thread Cert.KernelIdeal.nD Cert.KernelIdeal.τ).loc Cert.KernelIdeal.main_arg2) = a2)
    (h5 : m ((c.tc : Thread Cert.KernelIdeal.nD Cert.KernelIdeal.τ).loc Cert.KernelIdeal.main_arg5) = a5)
    (h6 : m ((c.tc : Thread Cert.KernelIdeal.nD Cert.KernelIdeal.τ).loc Cert.KernelIdeal.main_arg6) = a6)
    (h7 : m ((c.tc : Thread Cert.KernelIdeal.nD Cert.KernelIdeal.τ).loc Cert.KernelIdeal.main_arg7) = a7)
    (h8 : m ((c.tc : Thread Cert.KernelIdeal.nD Cert.KernelIdeal.τ).loc Cert.KernelIdeal.main_arg8) = a8)
    (h : Cert.Pre_finite.fn (F := Ideal) a0 a1 a2 a3 a4 a5 a6 a7 a8 = fun _ => 1#1) :
    Cert.ReferenceIdeal.Read.val_main_v104 (F := Ideal) a0 a1 a2 a3 a4 a5 a6 a7 a8 = Cert.KernelIdeal.Hand.result m c := by
  have r := holds h
  have k : Cert.KernelIdeal.Hand.Holds m c (data a0 a1 a2 a5 a6 a7 a8) :=
    { re := fun i j f => (congrFun h0 _).trans (r.re i j f)
      im := fun i j f => (congrFun h1 _).trans (r.im i j f)
      mask := fun i j => (congrFun h2 _).trans (r.mask i j)
      w1r := fun a b => (congrFun h5 _).trans (r.w1r a b)
      w2r := fun a b => (congrFun h6 _).trans (r.w2r a b)
      w1i := fun a b => (congrFun h7 _).trans (r.w1i a b)
      w2i := fun a b => (congrFun h8 _).trans (r.w2i a b) }
  have e : ∀ (i j : Fin 512) (f : Fin 16) (p : Fin 2),
      Cert.ReferenceIdeal.Read.val_main_v104 (F := Ideal) a0 a1 a2 a3 a4 a5 a6 a7 a8 (ix4 i j f p) = Cert.KernelIdeal.Hand.result m c (ix4 i j f p) :=
    fun i j f p => match p with
      | ⟨0, _⟩ => (Cert.ReferenceIdeal.Read.reference_re a3 a4 r i j f).trans (Cert.KernelIdeal.Hand.result_re k i j f).symm
      | ⟨1, _⟩ => (Cert.ReferenceIdeal.Read.reference_im a3 a4 r i j f).trans (Cert.KernelIdeal.Hand.result_im k i j f).symm
  funext y
  rw [← ix4_eta y]
  exact e _ _ _ _

end Cert.Final
end
-- ==== Proof.lean ====
module

public import proofs.«01_k».proof.Defs
public import proofs.«01_k».proof.Proof.Twin
public import proofs.«01_k».proof.Proof.Ref
public import proofs.«01_k».proof.Proof.Final
public import Idealize.ShloMosaic.Adequacy
public import Idealize.ShloMosaic.Init
public import Idealize.ShloMosaic.Lib.Quiescent

@[expose] public section

set_option maxRecDepth 16384

namespace Cert.Proof

open Idealize.ShloMosaic Idealize.SL.Sem

/-- The idealized kernel ends with its arguments unchanged and its semaphores at zero. -/
theorem kernelIdeal_frame : Cert.quiescent_KernelIdeal (hKernelIdeal := Cert.KernelIdeal.Gen.facts) := fun m ρ _ =>
  (θ_run Cert.KernelIdeal.defs _ _).mono (fun _ h => ⟨fun c => (h.1 c).2, h.2⟩) (Cert.KernelIdeal.Hand.run (F := Ideal) m ρ)

/-- So does the reference. -/
theorem referenceIdeal_frame : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The claim: both programs run and leave their arguments, and under the precondition the kernel's result is the
    reference's. -/
theorem claim : Cert.Claim := by
  refine ⟨Cert.Kernel.Gen.facts, Cert.KernelIdeal.Gen.facts, Cert.ReferenceIdeal.Gen.facts, Cert.Final.pre_facts,
    fun m ρ _ => Cert.Kernel.Hand.frame m ρ,
    kernelIdeal_frame,
    fun m ρ _ => kernelIdeal_frame m ρ trivial,
    referenceIdeal_frame,
    fun m ρ _ => referenceIdeal_frame m ρ trivial,
    trivial, ?_⟩
  intro m ρ m' ρ' hpre hagree
  refine ⟨Cert.KernelIdeal.Hand.result m, (θ_run Cert.KernelIdeal.defs _ _).mono (fun _ h c => h.1 c) (Cert.KernelIdeal.Hand.run (F := Ideal) m ρ), ?_⟩
  refine (θ_run Cert.ReferenceIdeal.defs _ _).mono (fun _ h c => ⟨?_, (h c).2⟩) (Cert.ReferenceIdeal.Value.run (F := Ideal) m' ρ')
  obtain ⟨e0, e1, e2, e3, e4, e5, e6, e7, e8⟩ := hagree c
  haveI := Cert.Final.pre_facts
  refine (h c).1.trans ((Cert.ReferenceIdeal.Read.val_main_v104_eq m' c).trans ?_)
  refine Cert.Final.result_eq m c e0.symm e1.symm e2.symm e5.symm e6.symm e7.symm e8.symm ?_
  rw [e0, e1, e2, e3, e4, e5, e6, e7, e8]
  exact hpre c

end Cert.Proof
end
